-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v81_0)) (v1 : (c : Dev Cert.KernelIdeal.nD) → Buf (Elt Ideal) ((c.tc : Thread Cert.KernelIdeal.nD Cert.KernelIdeal.τ).loc Cert.KernelIdeal.main_v81_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81_0) = v0 c
          ∧ r.2.mem ((c.tc : Thread Cert.KernelIdeal.nD Cert.KernelIdeal.τ).loc Cert.KernelIdeal.main_v81_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x1536 : Shape := ⟨2, ![2048, 1536]⟩
abbrev S2048x2048 : Shape := ⟨2, ![2048, 2048]⟩
abbrev S2048 : Shape := ⟨1, ![2048]⟩
abbrev S2 : Shape := ⟨1, ![2]⟩
abbrev S1536x2048 : Shape := ⟨2, ![1536, 2048]⟩
abbrev S2048x128 : Shape := ⟨2, ![2048, 128]⟩
abbrev S128 : Shape := ⟨1, ![128]⟩
abbrev S2048x16 : Shape := ⟨2, ![2048, 16]⟩
abbrev S_ : Shape := ⟨0, ![]⟩

class Facts : Prop where
  bcast_S_S2048x1536 : S_.BroadcastsInDim S2048x1536 (![] : Fin 0 → Fin S2048x1536.rank)
  bcast_S_S2048x2048 : S_.BroadcastsInDim S2048x2048 (![] : Fin 0 → Fin S2048x2048.rank)
  bcast_S_S1536x2048 : S_.BroadcastsInDim S1536x2048 (![] : Fin 0 → Fin S1536x2048.rank)
  bcast_S_S2048x128 : S_.BroadcastsInDim S2048x128 (![] : Fin 0 → Fin S2048x128.rank)
  bcast_S_S128 : S_.BroadcastsInDim S128 (![] : Fin 0 → Fin S128.rank)
  bcast_S_S2048x16 : S_.BroadcastsInDim S2048x16 (![] : Fin 0 → Fin S2048x16.rank)

variable [Facts]

def fn_part1 {F : FTy → Type} [FloatOps F] (main_arg8 : FVec F S2048x16 .f32) (main_v2 : IVec S2048x1536 1) (main_v5 : IVec S2048x2048 1) (main_v8 : IVec S1536x2048 1) (main_v11 : IVec S2048x128 1) (main_v14 : IVec S128 1) (main_v17 : IVec S128 1) : IVec S2048x1536 1 × IVec S2048x2048 1 × IVec S1536x2048 1 × IVec S2048x128 1 × IVec S128 1 × IVec S128 1 × IVec S2048x16 1 :=
  let main_v18 : FVec F S2048x16 .f32 := Host.absf main_arg8
  let main_cst_5 : FVec F S_ .f32 := constant S_ .f32 0x7F800000#32
  let main_v19 : FVec F S2048x16 .f32 := broadcastInDim S2048x16 ![] bcast_S_S2048x16 main_cst_5
  let main_v20 : IVec S2048x16 1 := cmpf .olt main_v18 main_v19
  (main_v2, main_v5, main_v8, main_v11, main_v14, main_v17, main_v20)

def fn {F : FTy → Type} [FloatOps F] (main_arg0 : FVec F S2048x1536 .f32) (main_arg1 : FVec F S2048x2048 .f32) (main_arg2 : IVec S2048 32) (main_arg3 : IVec S2 32) (main_arg4 : FVec F S1536x2048 .f32) (main_arg5 : FVec F S2048x128 .f32) (main_arg6 : FVec F S128 .f32) (main_arg7 : FVec F S128 .f32) (main_arg8 : FVec F S2048x16 .f32) : IVec S2048x1536 1 × IVec S2048x2048 1 × IVec S1536x2048 1 × IVec S2048x128 1 × IVec S128 1 × IVec S128 1 × IVec S2048x16 1 :=
  let main_v0 : FVec F S2048x1536 .f32 := Host.absf main_arg0
  let main_cst : FVec F S_ .f32 := constant S_ .f32 0x7F800000#32
  let main_v1 : FVec F S2048x1536 .f32 := broadcastInDim S2048x1536 ![] bcast_S_S2048x1536 main_cst
  let main_v2 : IVec S2048x1536 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S1536x2048 .f32 := Host.absf main_arg4
  let main_cst_1 : FVec F S_ .f32 := constant S_ .f32 0x7F800000#32
  let main_v7 : FVec F S1536x2048 .f32 := broadcastInDim S1536x2048 ![] bcast_S_S1536x2048 main_cst_1
  let main_v8 : IVec S1536x2048 1 := cmpf .olt main_v6 main_v7
  let main_v9 : FVec F S2048x128 .f32 := Host.absf main_arg5
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_v12 : FVec F S128 .f32 := Host.absf main_arg6
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S128 .f32 := Host.absf main_arg7
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  fn_part1 (F := F) main_arg8 main_v2 main_v5 main_v8 main_v11 main_v14 main_v17
-- ==== Kernel.lean ====
abbrev S2048x1536 : Shape := ⟨2, ![2048, 1536]⟩
abbrev S2048x2048 : Shape := ⟨2, ![2048, 2048]⟩
abbrev S2048 : Shape := ⟨1, ![2048]⟩
abbrev S2 : Shape := ⟨1, ![2]⟩
abbrev S1536x2048 : Shape := ⟨2, ![1536, 2048]⟩
abbrev S2048x128 : Shape := ⟨2, ![2048, 128]⟩
abbrev S128 : Shape := ⟨1, ![128]⟩
abbrev S2048x16 : Shape := ⟨2, ![2048, 16]⟩
abbrev S32 : Shape := ⟨1, ![32]⟩
abbrev S1x32 : Shape := ⟨2, ![1, 32]⟩
abbrev S2048x1 : Shape := ⟨2, ![2048, 1]⟩
abbrev S2048x32 : Shape := ⟨2, ![2048, 32]⟩
abbrev S_ : Shape := ⟨0, ![]⟩
abbrev S1x128 : Shape := ⟨2, ![1, 128]⟩
abbrev S2048x64 : Shape := ⟨2, ![2048, 64]⟩
abbrev S256x1536 : Shape := ⟨2, ![256, 1536]⟩
abbrev S256x2048 : Shape := ⟨2, ![256, 2048]⟩
abbrev S256x32 : Shape := ⟨2, ![256, 32]⟩
abbrev S256x16 : Shape := ⟨2, ![256, 16]⟩
abbrev S256x128 : Shape := ⟨2, ![256, 128]⟩
abbrev S256x64 : Shape := ⟨2, ![256, 64]⟩
abbrev S2048x16x128 : Shape := ⟨3, ![2048, 16, 128]⟩
abbrev S2048x1024 : Shape := ⟨2, ![2048, 1024]⟩
abbrev S128x2048 : Shape := ⟨2, ![128, 2048]⟩
abbrev S1024x128 : Shape := ⟨2, ![1024, 128]⟩
abbrev S1024x1 : Shape := ⟨2, ![1024, 1]⟩
abbrev S128x16 : Shape := ⟨2, ![128, 16]⟩
abbrev S128x1024 : Shape := ⟨2, ![128, 1024]⟩
abbrev S128x128 : Shape := ⟨2, ![128, 128]⟩
abbrev S128x1 : Shape := ⟨2, ![128, 1]⟩
abbrev S1023x128 : Shape := ⟨2, ![1023, 128]⟩
abbrev S1022x128 : Shape := ⟨2, ![1022, 128]⟩
abbrev S2x128 : Shape := ⟨2, ![2, 128]⟩
abbrev S64x2x8x128 : Shape := ⟨4, ![64, 2, 8, 128]⟩
abbrev S64x1x8x128 : Shape := ⟨4, ![64, 1, 8, 128]⟩
abbrev S64x8x128 : Shape := ⟨3, ![64, 8, 128]⟩
abbrev S64x4x128 : Shape := ⟨3, ![64, 4, 128]⟩
abbrev S64x6x128 : Shape := ⟨3, ![64, 6, 128]⟩
abbrev S64x2x128 : Shape := ⟨3, ![64, 2, 128]⟩
abbrev S64x7x128 : Shape := ⟨3, ![64, 7, 128]⟩
abbrev S64x1x128 : Shape := ⟨3, ![64, 1, 128]⟩
abbrev S32x2x1x2x8x128 : Shape := ⟨6, ![32, 2, 1, 2, 8, 128]⟩
abbrev S32x1x1x1x8x128 : Shape := ⟨6, ![32, 1, 1, 1, 8, 128]⟩
abbrev S32x1x8x128 : Shape := ⟨4, ![32, 1, 8, 128]⟩
abbrev S32x1x1x8x128 : Shape := ⟨5, ![32, 1, 1, 8, 128]⟩
abbrev S32x1x2x8x128 : Shape := ⟨5, ![32, 1, 2, 8, 128]⟩
abbrev S32x1x1x2x8x128 : Shape := ⟨6, ![32, 1, 1, 2, 8, 128]⟩
abbrev S32x2x16x128 : Shape := ⟨4, ![32, 2, 16, 128]⟩
abbrev S32x1x16x128 : Shape := ⟨4, ![32, 1, 16, 128]⟩
abbrev S32x16x128 : Shape := ⟨3, ![32, 16, 128]⟩
abbrev S32x12x128 : Shape := ⟨3, ![32, 12, 128]⟩
abbrev S32x4x128 : Shape := ⟨3, ![32, 4, 128]⟩
abbrev S32x14x128 : Shape := ⟨3, ![32, 14, 128]⟩
abbrev S32x2x128 : Shape := ⟨3, ![32, 2, 128]⟩
abbrev S32x15x128 : Shape := ⟨3, ![32, 15, 128]⟩
abbrev S32x1x128 : Shape := ⟨3, ![32, 1, 128]⟩
abbrev S16x2x1x2x16x128 : Shape := ⟨6, ![16, 2, 1, 2, 16, 128]⟩
abbrev S16x1x1x1x16x128 : Shape := ⟨6, ![16, 1, 1, 1, 16, 128]⟩
abbrev S16x1x16x128 : Shape := ⟨4, ![16, 1, 16, 128]⟩
abbrev S16x1x1x16x128 : Shape := ⟨5, ![16, 1, 1, 16, 128]⟩
abbrev S16x1x2x16x128 : Shape := ⟨5, ![16, 1, 2, 16, 128]⟩
abbrev S16x1x1x2x16x128 : Shape := ⟨6, ![16, 1, 1, 2, 16, 128]⟩
abbrev S16x2x2x2x8x128 : Shape := ⟨6, ![16, 2, 2, 2, 8, 128]⟩
abbrev S16x1x2x1x8x128 : Shape := ⟨6, ![16, 1, 2, 1, 8, 128]⟩
abbrev S16x2x8x128 : Shape := ⟨4, ![16, 2, 8, 128]⟩
abbrev S16x2x1x8x128 : Shape := ⟨5, ![16, 2, 1, 8, 128]⟩
abbrev S16x2x2x8x128 : Shape := ⟨5, ![16, 2, 2, 8, 128]⟩
abbrev S16x1x2x2x8x128 : Shape := ⟨6, ![16, 1, 2, 2, 8, 128]⟩
abbrev S16x2x32x128 : Shape := ⟨4, ![16, 2, 32, 128]⟩
abbrev S16x1x32x128 : Shape := ⟨4, ![16, 1, 32, 128]⟩
abbrev S16x32x128 : Shape := ⟨3, ![16, 32, 128]⟩
abbrev S16x28x128 : Shape := ⟨3, ![16, 28, 128]⟩
abbrev S16x4x128 : Shape := ⟨3, ![16, 4, 128]⟩
abbrev S16x30x128 : Shape := ⟨3, ![16, 30, 128]⟩
abbrev S16x2x128 : Shape := ⟨3, ![16, 2, 128]⟩
abbrev S16x31x128 : Shape := ⟨3, ![16, 31, 128]⟩
abbrev S16x1x128 : Shape := ⟨3, ![16, 1, 128]⟩
abbrev S8x2x1x2x32x128 : Shape := ⟨6, ![8, 2, 1, 2, 32, 128]⟩
abbrev S8x1x1x1x32x128 : Shape := ⟨6, ![8, 1, 1, 1, 32, 128]⟩
abbrev S8x1x32x128 : Shape := ⟨4, ![8, 1, 32, 128]⟩
abbrev S8x1x1x32x128 : Shape := ⟨5, ![8, 1, 1, 32, 128]⟩
abbrev S8x1x2x32x128 : Shape := ⟨5, ![8, 1, 2, 32, 128]⟩
abbrev S8x1x1x2x32x128 : Shape := ⟨6, ![8, 1, 1, 2, 32, 128]⟩
abbrev S8x2x2x2x16x128 : Shape := ⟨6, ![8, 2, 2, 2, 16, 128]⟩
abbrev S8x1x2x1x16x128 : Shape := ⟨6, ![8, 1, 2, 1, 16, 128]⟩
abbrev S8x2x16x128 : Shape := ⟨4, ![8, 2, 16, 128]⟩
abbrev S8x2x1x16x128 : Shape := ⟨5, ![8, 2, 1, 16, 128]⟩
abbrev S8x2x2x16x128 : Shape := ⟨5, ![8, 2, 2, 16, 128]⟩
abbrev S8x1x2x2x16x128 : Shape := ⟨6, ![8, 1, 2, 2, 16, 128]⟩
abbrev S8x2x4x2x8x128 : Shape := ⟨6, ![8, 2, 4, 2, 8, 128]⟩
abbrev S8x1x4x1x8x128 : Shape := ⟨6, ![8, 1, 4, 1, 8, 128]⟩
abbrev S8x4x8x128 : Shape := ⟨4, ![8, 4, 8, 128]⟩
abbrev S8x4x1x8x128 : Shape := ⟨5, ![8, 4, 1, 8, 128]⟩
abbrev S8x4x2x8x128 : Shape := ⟨5, ![8, 4, 2, 8, 128]⟩
abbrev S8x1x4x2x8x128 : Shape := ⟨6, ![8, 1, 4, 2, 8, 128]⟩
abbrev S8x2x64x128 : Shape := ⟨4, ![8, 2, 64, 128]⟩
abbrev S8x1x64x128 : Shape := ⟨4, ![8, 1, 64, 128]⟩
abbrev S8x64x128 : Shape := ⟨3, ![8, 64, 128]⟩
abbrev S8x60x128 : Shape := ⟨3, ![8, 60, 128]⟩
abbrev S8x4x128 : Shape := ⟨3, ![8, 4, 128]⟩
abbrev S8x62x128 : Shape := ⟨3, ![8, 62, 128]⟩
abbrev S8x2x128 : Shape := ⟨3, ![8, 2, 128]⟩
abbrev S8x63x128 : Shape := ⟨3, ![8, 63, 128]⟩
abbrev S8x1x128 : Shape := ⟨3, ![8, 1, 128]⟩
abbrev S4x2x1x2x64x128 : Shape := ⟨6, ![4, 2, 1, 2, 64, 128]⟩
abbrev S4x1x1x1x64x128 : Shape := ⟨6, ![4, 1, 1, 1, 64, 128]⟩
abbrev S4x1x64x128 : Shape := ⟨4, ![4, 1, 64, 128]⟩
abbrev S4x1x1x64x128 : Shape := ⟨5, ![4, 1, 1, 64, 128]⟩
abbrev S4x1x2x64x128 : Shape := ⟨5, ![4, 1, 2, 64, 128]⟩
abbrev S4x1x1x2x64x128 : Shape := ⟨6, ![4, 1, 1, 2, 64, 128]⟩
abbrev S4x2x2x2x32x128 : Shape := ⟨6, ![4, 2, 2, 2, 32, 128]⟩
abbrev S4x1x2x1x32x128 : Shape := ⟨6, ![4, 1, 2, 1, 32, 128]⟩
abbrev S4x2x32x128 : Shape := ⟨4, ![4, 2, 32, 128]⟩
abbrev S4x2x1x32x128 : Shape := ⟨5, ![4, 2, 1, 32, 128]⟩
abbrev S4x2x2x32x128 : Shape := ⟨5, ![4, 2, 2, 32, 128]⟩
abbrev S4x1x2x2x32x128 : Shape := ⟨6, ![4, 1, 2, 2, 32, 128]⟩
abbrev S4x2x4x2x16x128 : Shape := ⟨6, ![4, 2, 4, 2, 16, 128]⟩
abbrev S4x1x4x1x16x128 : Shape := ⟨6, ![4, 1, 4, 1, 16, 128]⟩
abbrev S4x4x16x128 : Shape := ⟨4, ![4, 4, 16, 128]⟩
abbrev S4x4x1x16x128 : Shape := ⟨5, ![4, 4, 1, 16, 128]⟩
abbrev S4x4x2x16x128 : Shape := ⟨5, ![4, 4, 2, 16, 128]⟩
abbrev S4x1x4x2x16x128 : Shape := ⟨6, ![4, 1, 4, 2, 16, 128]⟩
abbrev S4x2x8x2x8x128 : Shape := ⟨6, ![4, 2, 8, 2, 8, 128]⟩
abbrev S4x1x8x1x8x128 : Shape := ⟨6, ![4, 1, 8, 1, 8, 128]⟩
abbrev S4x8x8x128 : Shape := ⟨4, ![4, 8, 8, 128]⟩
abbrev S4x8x1x8x128 : Shape := ⟨5, ![4, 8, 1, 8, 128]⟩
abbrev S4x8x2x8x128 : Shape := ⟨5, ![4, 8, 2, 8, 128]⟩
abbrev S4x1x8x2x8x128 : Shape := ⟨6, ![4, 1, 8, 2, 8, 128]⟩
abbrev S4x2x128x128 : Shape := ⟨4, ![4, 2, 128, 128]⟩
abbrev S4x1x128x128 : Shape := ⟨4, ![4, 1, 128, 128]⟩
abbrev S4x128x128 : Shape := ⟨3, ![4, 128, 128]⟩
abbrev S4x124x128 : Shape := ⟨3, ![4, 124, 128]⟩
abbrev S4x4x128 : Shape := ⟨3, ![4, 4, 128]⟩
abbrev S4x126x128 : Shape := ⟨3, ![4, 126, 128]⟩
abbrev S4x2x128 : Shape := ⟨3, ![4, 2, 128]⟩
abbrev S4x127x128 : Shape := ⟨3, ![4, 127, 128]⟩
abbrev S4x1x128 : Shape := ⟨3, ![4, 1, 128]⟩
abbrev S2x2x1x2x128x128 : Shape := ⟨6, ![2, 2, 1, 2, 128, 128]⟩
abbrev S2x1x1x1x128x128 : Shape := ⟨6, ![2, 1, 1, 1, 128, 128]⟩
abbrev S2x1x128x128 : Shape := ⟨4, ![2, 1, 128, 128]⟩
abbrev S2x1x1x128x128 : Shape := ⟨5, ![2, 1, 1, 128, 128]⟩
abbrev S2x1x2x128x128 : Shape := ⟨5, ![2, 1, 2, 128, 128]⟩
abbrev S2x1x1x2x128x128 : Shape := ⟨6, ![2, 1, 1, 2, 128, 128]⟩
abbrev S2x2x2x2x64x128 : Shape := ⟨6, ![2, 2, 2, 2, 64, 128]⟩
abbrev S2x1x2x1x64x128 : Shape := ⟨6, ![2, 1, 2, 1, 64, 128]⟩
abbrev S2x2x64x128 : Shape := ⟨4, ![2, 2, 64, 128]⟩
abbrev S2x2x1x64x128 : Shape := ⟨5, ![2, 2, 1, 64, 128]⟩
abbrev S2x2x2x64x128 : Shape := ⟨5, ![2, 2, 2, 64, 128]⟩
abbrev S2x1x2x2x64x128 : Shape := ⟨6, ![2, 1, 2, 2, 64, 128]⟩
abbrev S2x2x4x2x32x128 : Shape := ⟨6, ![2, 2, 4, 2, 32, 128]⟩
abbrev S2x1x4x1x32x128 : Shape := ⟨6, ![2, 1, 4, 1, 32, 128]⟩
abbrev S2x4x32x128 : Shape := ⟨4, ![2, 4, 32, 128]⟩
abbrev S2x4x1x32x128 : Shape := ⟨5, ![2, 4, 1, 32, 128]⟩
abbrev S2x4x2x32x128 : Shape := ⟨5, ![2, 4, 2, 32, 128]⟩
abbrev S2x1x4x2x32x128 : Shape := ⟨6, ![2, 1, 4, 2, 32, 128]⟩
abbrev S2x2x8x2x16x128 : Shape := ⟨6, ![2, 2, 8, 2, 16, 128]⟩
abbrev S2x1x8x1x16x128 : Shape := ⟨6, ![2, 1, 8, 1, 16, 128]⟩
abbrev S2x8x16x128 : Shape := ⟨4, ![2, 8, 16, 128]⟩
abbrev S2x8x1x16x128 : Shape := ⟨5, ![2, 8, 1, 16, 128]⟩
abbrev S2x8x2x16x128 : Shape := ⟨5, ![2, 8, 2, 16, 128]⟩
abbrev S2x1x8x2x16x128 : Shape := ⟨6, ![2, 1, 8, 2, 16, 128]⟩
abbrev S2x2x16x2x8x128 : Shape := ⟨6, ![2, 2, 16, 2, 8, 128]⟩
abbrev S2x1x16x1x8x128 : Shape := ⟨6, ![2, 1, 16, 1, 8, 128]⟩
abbrev S2x16x8x128 : Shape := ⟨4, ![2, 16, 8, 128]⟩
abbrev S2x16x1x8x128 : Shape := ⟨5, ![2, 16, 1, 8, 128]⟩
abbrev S2x16x2x8x128 : Shape := ⟨5, ![2, 16, 2, 8, 128]⟩
abbrev S2x1x16x2x8x128 : Shape := ⟨6, ![2, 1, 16, 2, 8, 128]⟩
abbrev S2x2x256x128 : Shape := ⟨4, ![2, 2, 256, 128]⟩
abbrev S2x1x256x128 : Shape := ⟨4, ![2, 1, 256, 128]⟩
abbrev S2x256x128 : Shape := ⟨3, ![2, 256, 128]⟩
abbrev S2x252x128 : Shape := ⟨3, ![2, 252, 128]⟩
abbrev S2x4x128 : Shape := ⟨3, ![2, 4, 128]⟩
abbrev S2x254x128 : Shape := ⟨3, ![2, 254, 128]⟩
abbrev S2x2x128 : Shape := ⟨3, ![2, 2, 128]⟩
abbrev S2x255x128 : Shape := ⟨3, ![2, 255, 128]⟩
abbrev S2x1x128 : Shape := ⟨3, ![2, 1, 128]⟩
abbrev S1x2x1x2x256x128 : Shape := ⟨6, ![1, 2, 1, 2, 256, 128]⟩
abbrev S1x1x1x1x256x128 : Shape := ⟨6, ![1, 1, 1, 1, 256, 128]⟩
abbrev S1x1x256x128 : Shape := ⟨4, ![1, 1, 256, 128]⟩
abbrev S1x1x1x256x128 : Shape := ⟨5, ![1, 1, 1, 256, 128]⟩
abbrev S1x1x2x256x128 : Shape := ⟨5, ![1, 1, 2, 256, 128]⟩
abbrev S1x1x1x2x256x128 : Shape := ⟨6, ![1, 1, 1, 2, 256, 128]⟩
abbrev S1x2x2x2x128x128 : Shape := ⟨6, ![1, 2, 2, 2, 128, 128]⟩
abbrev S1x1x2x1x128x128 : Shape := ⟨6, ![1, 1, 2, 1, 128, 128]⟩
abbrev S1x2x128x128 : Shape := ⟨4, ![1, 2, 128, 128]⟩
abbrev S1x2x1x128x128 : Shape := ⟨5, ![1, 2, 1, 128, 128]⟩
abbrev S1x2x2x128x128 : Shape := ⟨5, ![1, 2, 2, 128, 128]⟩
abbrev S1x1x2x2x128x128 : Shape := ⟨6, ![1, 1, 2, 2, 128, 128]⟩
abbrev S1x2x4x2x64x128 : Shape := ⟨6, ![1, 2, 4, 2, 64, 128]⟩
abbrev S1x1x4x1x64x128 : Shape := ⟨6, ![1, 1, 4, 1, 64, 128]⟩
abbrev S1x4x64x128 : Shape := ⟨4, ![1, 4, 64, 128]⟩
abbrev S1x4x1x64x128 : Shape := ⟨5, ![1, 4, 1, 64, 128]⟩
abbrev S1x4x2x64x128 : Shape := ⟨5, ![1, 4, 2, 64, 128]⟩
abbrev S1x1x4x2x64x128 : Shape := ⟨6, ![1, 1, 4, 2, 64, 128]⟩
abbrev S1x2x8x2x32x128 : Shape := ⟨6, ![1, 2, 8, 2, 32, 128]⟩
abbrev S1x1x8x1x32x128 : Shape := ⟨6, ![1, 1, 8, 1, 32, 128]⟩
abbrev S1x8x32x128 : Shape := ⟨4, ![1, 8, 32, 128]⟩
abbrev S1x8x1x32x128 : Shape := ⟨5, ![1, 8, 1, 32, 128]⟩
abbrev S1x8x2x32x128 : Shape := ⟨5, ![1, 8, 2, 32, 128]⟩
abbrev S1x1x8x2x32x128 : Shape := ⟨6, ![1, 1, 8, 2, 32, 128]⟩
abbrev S1x2x16x2x16x128 : Shape := ⟨6, ![1, 2, 16, 2, 16, 128]⟩
abbrev S1x1x16x1x16x128 : Shape := ⟨6, ![1, 1, 16, 1, 16, 128]⟩
abbrev S1x16x16x128 : Shape := ⟨4, ![1, 16, 16, 128]⟩
abbrev S1x16x1x16x128 : Shape := ⟨5, ![1, 16, 1, 16, 128]⟩
abbrev S1x16x2x16x128 : Shape := ⟨5, ![1, 16, 2, 16, 128]⟩
abbrev S1x1x16x2x16x128 : Shape := ⟨6, ![1, 1, 16, 2, 16, 128]⟩
abbrev S1x2x32x2x8x128 : Shape := ⟨6, ![1, 2, 32, 2, 8, 128]⟩
abbrev S1x1x32x1x8x128 : Shape := ⟨6, ![1, 1, 32, 1, 8, 128]⟩
abbrev S1x32x8x128 : Shape := ⟨4, ![1, 32, 8, 128]⟩
abbrev S1x32x1x8x128 : Shape := ⟨5, ![1, 32, 1, 8, 128]⟩
abbrev S1x32x2x8x128 : Shape := ⟨5, ![1, 32, 2, 8, 128]⟩
abbrev S1x1x32x2x8x128 : Shape := ⟨6, ![1, 1, 32, 2, 8, 128]⟩
abbrev S1x2x512x128 : Shape := ⟨4, ![1, 2, 512, 128]⟩
abbrev S1x1x512x128 : Shape := ⟨4, ![1, 1, 512, 128]⟩
abbrev S1x512x128 : Shape := ⟨3, ![1, 512, 128]⟩
abbrev S1x508x128 : Shape := ⟨3, ![1, 508, 128]⟩
abbrev S1x4x128 : Shape := ⟨3, ![1, 4, 128]⟩
abbrev S1x510x128 : Shape := ⟨3, ![1, 510, 128]⟩
abbrev S1x2x128 : Shape := ⟨3, ![1, 2, 128]⟩
abbrev S1x511x128 : Shape := ⟨3, ![1, 511, 128]⟩
abbrev S1x1x128 : Shape := ⟨3, ![1, 1, 128]⟩
abbrev S1020x128 : Shape := ⟨2, ![1020, 128]⟩
abbrev S4x128 : Shape := ⟨2, ![4, 128]⟩

abbrev nBuf : Space → Nat
  | .hbm => 112
  | .vmem => 28
  | .smem => 0
  | _ => 0

abbrev bufTy : (tb : Table) → Fin (tcTables nBuf tb) → BufTy
  | .hbm, ⟨0, _⟩ => ⟨S2048x1536, .f32⟩
  | .hbm, ⟨1, _⟩ => ⟨S2048x2048, .f32⟩
  | .hbm, ⟨2, _⟩ => ⟨S2048, .i32⟩
  | .hbm, ⟨3, _⟩ => ⟨S2, .i32⟩
  | .hbm, ⟨4, _⟩ => ⟨S1536x2048, .f32⟩
  | .hbm, ⟨5, _⟩ => ⟨S2048x128, .f32⟩
  | .hbm, ⟨6, _⟩ => ⟨S128, .f32⟩
  | .hbm, ⟨7, _⟩ => ⟨S128, .f32⟩
  | .hbm, ⟨8, _⟩ => ⟨S2048x16, .f32⟩
  | .hbm, ⟨9, _⟩ => ⟨S32, .f32⟩
  | .hbm, ⟨10, _⟩ => ⟨S1x32, .f32⟩
  | .hbm, ⟨11, _⟩ => ⟨S2048, .f32⟩
  | .hbm, ⟨12, _⟩ => ⟨S2048x1, .f32⟩
  | .hbm, ⟨13, _⟩ => ⟨S2048x32, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x128, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x128, .f32⟩
  | .hbm, ⟨26, _⟩ => ⟨S2048x128, .f32⟩
  | .hbm, ⟨27, _⟩ => ⟨S2048x128, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x128, .f32⟩
  | .hbm, ⟨35, _⟩ => ⟨S2048x128, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x128, .f32⟩
  | .hbm, ⟨41, _⟩ => ⟨S2048x128, .f32⟩
  | .hbm, ⟨42, _⟩ => ⟨S1x128, .f32⟩
  | .hbm, ⟨43, _⟩ => ⟨S2048x128, .f32⟩
  | .hbm, ⟨44, _⟩ => ⟨S2048x128, .f32⟩
  | .hbm, ⟨45, _⟩ => ⟨S1x128, .f32⟩
  | .hbm, ⟨46, _⟩ => ⟨S2048x128, .f32⟩
  | .hbm, ⟨47, _⟩ => ⟨S2048x128, .f32⟩
  | .hbm, ⟨48, _⟩ => ⟨S2048x32, .f32⟩
  | .hbm, ⟨49, _⟩ => ⟨S2048x32, .f32⟩
  | .hbm, ⟨50, _⟩ => ⟨S2048x32, .f32⟩
  | .hbm, ⟨51, _⟩ => ⟨S2048x32, .f32⟩
  | .hbm, ⟨52, _⟩ => ⟨S2048x32, .f32⟩
  | .hbm, ⟨53, _⟩ => ⟨S2048x32, .f32⟩
  | .hbm, ⟨54, _⟩ => ⟨S2048x32, .f32⟩
  | .hbm, ⟨55, _⟩ => ⟨S2048x32, .f32⟩
  | .hbm, ⟨56, _⟩ => ⟨S2048x64, .f32⟩
  | .hbm, ⟨57, _⟩ => ⟨S2048x128, .f32⟩
  | .hbm, ⟨58, _⟩ => ⟨S2048x128, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048x1, .f32⟩
  | .hbm, ⟨71, _⟩ => ⟨S2048x1, .f32⟩
  | .hbm, ⟨72, _⟩ => ⟨S2048x1, .f32⟩
  | .hbm, ⟨73, _⟩ => ⟨S_, .f32⟩
  | .hbm, ⟨74, _⟩ => ⟨S2048x1, .f32⟩
  | .hbm, ⟨75, _⟩ => ⟨S2048x1, .f32⟩
  | .hbm, ⟨76, _⟩ => ⟨S2048x1, .f32⟩
  | .hbm, ⟨77, _⟩ => ⟨S2048x128, .f32⟩
  | .hbm, ⟨78, _⟩ => ⟨S2048x128, .f32⟩
  | .hbm, ⟨79, _⟩ => ⟨S2048x2048, .f32⟩
  | .hbm, ⟨80, _⟩ => ⟨S2048x16, .f32⟩
  | .hbm, ⟨81, _⟩ => ⟨S2048x16x128, .f32⟩
  | .hbm, ⟨82, _⟩ => ⟨S2048x16x128, .f32⟩
  | .hbm, ⟨83, _⟩ => ⟨S_, .f32⟩
  | .hbm, ⟨84, _⟩ => ⟨S2048x16, .f32⟩
  | .hbm, ⟨85, _⟩ => ⟨S_, .f32⟩
  | .hbm, ⟨86, _⟩ => ⟨S2048x16, .f32⟩
  | .hbm, ⟨87, _⟩ => ⟨S2048x16, .f32⟩
  | .hbm, ⟨88, _⟩ => ⟨S_, .f32⟩
  | .hbm, ⟨89, _⟩ => ⟨S2048x16, .f32⟩
  | .hbm, ⟨90, _⟩ => ⟨S2048x16, .f32⟩
  | .hbm, ⟨91, _⟩ => ⟨S2048x16, .f32⟩
  | .hbm, ⟨92, _⟩ => ⟨S_, .f32⟩
  | .hbm, ⟨93, _⟩ => ⟨S2048x16, .f32⟩
  | .hbm, ⟨94, _⟩ => ⟨S2048x16, .f32⟩
  | .hbm, ⟨95, _⟩ => ⟨S2048x16, .f32⟩
  | .hbm, ⟨96, _⟩ => ⟨S_, .f32⟩
  | .hbm, ⟨97, _⟩ => ⟨S2048x16, .f32⟩
  | .hbm, ⟨98, _⟩ => ⟨S2048x16, .f32⟩
  | .hbm, ⟨99, _⟩ => ⟨S2048x16, .f32⟩
  | .hbm, ⟨100, _⟩ => ⟨S_, .f32⟩
  | .hbm, ⟨101, _⟩ => ⟨S2048x16, .f32⟩
  | .hbm, ⟨102, _⟩ => ⟨S2048x16, .f32⟩
  | .hbm, ⟨103, _⟩ => ⟨S2048x16, .f32⟩
  | .hbm, ⟨104, _⟩ => ⟨S_, .f32⟩
  | .hbm, ⟨105, _⟩ => ⟨S2048x16, .f32⟩
  | .hbm, ⟨106, _⟩ => ⟨S2048x16, .f32⟩
  | .hbm, ⟨107, _⟩ => ⟨S_, .f32⟩
  | .hbm, ⟨108, _⟩ => ⟨S2048x16, .f32⟩
  | .hbm, ⟨109, _⟩ => ⟨S2048x16, .f32⟩
  | .hbm, ⟨110, _⟩ => ⟨S2048x1024, .f32⟩
  | .hbm, ⟨111, _⟩ => ⟨S2048x1024, .i32⟩
  | .local _ .vmem, ⟨0, _⟩ => ⟨S256x1536, .f32⟩
  | .local _ .vmem, ⟨1, _⟩ => ⟨S256x1536, .f32⟩
  | .local _ .vmem, ⟨2, _⟩ => ⟨S1536x2048, .f32⟩
  | .local _ .vmem, ⟨3, _⟩ => ⟨S256x2048, .f32⟩
  | .local _ .vmem, ⟨4, _⟩ => ⟨S256x2048, .f32⟩
  | .local _ .vmem, ⟨5, _⟩ => ⟨S2048x16, .f32⟩
  | .local _ .vmem, ⟨6, _⟩ => ⟨S256x32, .f32⟩
  | .local _ .vmem, ⟨7, _⟩ => ⟨S256x32, .f32⟩
  | .local _ .vmem, ⟨8, _⟩ => ⟨S256x32, .f32⟩
  | .local _ .vmem, ⟨9, _⟩ => ⟨S256x32, .f32⟩
  | .local _ .vmem, ⟨10, _⟩ => ⟨S256x2048, .f32⟩
  | .local _ .vmem, ⟨11, _⟩ => ⟨S256x2048, .f32⟩
  | .local _ .vmem, ⟨12, _⟩ => ⟨S256x16, .f32⟩
  | .local _ .vmem, ⟨13, _⟩ => ⟨S256x16, .f32⟩
  | .local _ .vmem, ⟨14, _⟩ => ⟨S128x2048, .f32⟩
  | .local _ .vmem, ⟨15, _⟩ => ⟨S128x2048, .f32⟩
  | .local _ .vmem, ⟨16, _⟩ => ⟨S1024x128, .f32⟩
  | .local _ .vmem, ⟨17, _⟩ => ⟨S1024x128, .f32⟩
  | .local _ .vmem, ⟨18, _⟩ => ⟨S1024x1, .f32⟩
  | .local _ .vmem, ⟨19, _⟩ => ⟨S1024x1, .f32⟩
  | .local _ .vmem, ⟨20, _⟩ => ⟨S128x16, .f32⟩
  | .local _ .vmem, ⟨21, _⟩ => ⟨S128x16, .f32⟩
  | .local _ .vmem, ⟨22, _⟩ => ⟨S128x16, .f32⟩
  | .local _ .vmem, ⟨23, _⟩ => ⟨S128x16, .f32⟩
  | .local _ .vmem, ⟨24, _⟩ => ⟨S128x1024, .f32⟩
  | .local _ .vmem, ⟨25, _⟩ => ⟨S128x1024, .f32⟩
  | .local _ .vmem, ⟨26, _⟩ => ⟨S128x1024, .i32⟩
  | .local _ .vmem, ⟨27, _⟩ => ⟨S128x1024, .i32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59_0 : Ref sig .tc := ⟨.hbm, 79, rfl⟩
abbrev main_v59_1 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_15 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_16 : Ref sig .tc := ⟨.hbm, 104, rfl⟩
abbrev main_v77 : Ref sig .tc := ⟨.hbm, 105, rfl⟩
abbrev main_v78 : Ref sig .tc := ⟨.hbm, 106, rfl⟩
abbrev main_cst_17 : Ref sig .tc := ⟨.hbm, 107, rfl⟩
abbrev main_v79 : Ref sig .tc := ⟨.hbm, 108, rfl⟩
abbrev main_v80 : Ref sig .tc := ⟨.hbm, 109, rfl⟩
abbrev main_v81_0 : Ref sig .tc := ⟨.hbm, 110, rfl⟩
abbrev main_v81_1 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 8], ![false, false]⟩

def k1_off1 (i : grid1.Coords) : Fin 2 → Nat :=
  let c0_i32 : BitVec 32 := 0#32
  let arg1 : BitVec 32 := BitVec.ofNat 32 (i 1).val
  let v263 : BitVec 32 := Scalar.muli c0_i32 arg1
  let v264 : Index := Scalar.indexCast v263
  let c0_54 : Index := 0#32
  ![v264.toNat, 0]
def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.muli arg1 c1_i32
  let v2 : BitVec 32 := Scalar.addi v0 v1
  let c0_i32 : BitVec 32 := 0#32
  let c0_i32_0 : BitVec 32 := 0#32
  ![v2.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S128x1024 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S2048x1536 : Shape := ⟨2, ![2048, 1536]⟩
abbrev S2048x2048 : Shape := ⟨2, ![2048, 2048]⟩
abbrev S2048 : Shape := ⟨1, ![2048]⟩
abbrev S2 : Shape := ⟨1, ![2]⟩
abbrev S1536x2048 : Shape := ⟨2, ![1536, 2048]⟩
abbrev S2048x128 : Shape := ⟨2, ![2048, 128]⟩
abbrev S128 : Shape := ⟨1, ![128]⟩
abbrev S2048x16 : Shape := ⟨2, ![2048, 16]⟩
abbrev S_ : Shape := ⟨0, ![]⟩
abbrev S1 : Shape := ⟨1, ![1]⟩
abbrev S16 : Shape := ⟨1, ![16]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x16x128 : Shape := ⟨3, ![2048, 16, 128]⟩
abbrev S2048x16x64 : Shape := ⟨3, ![2048, 16, 64]⟩
abbrev S2048x1x32 : Shape := ⟨3, ![2048, 1, 32]⟩
abbrev S2048x16x32 : Shape := ⟨3, ![2048, 16, 32]⟩
abbrev S1x128 : Shape := ⟨2, ![1, 128]⟩
abbrev S2048x64 : Shape := ⟨2, ![2048, 64]⟩
abbrev S2048x16x1 : Shape := ⟨3, ![2048, 16, 1]⟩
abbrev S2x1024x16x128 : Shape := ⟨4, ![2, 1024, 16, 128]⟩
abbrev S2x1024x128 : Shape := ⟨3, ![2, 1024, 128]⟩
abbrev S2x1024x16x1024 : Shape := ⟨4, ![2, 1024, 16, 1024]⟩
abbrev S2x1024x16x1 : Shape := ⟨4, ![2, 1024, 16, 1]⟩
abbrev S2x1024x1024 : Shape := ⟨3, ![2, 1024, 1024]⟩
abbrev S2x1x1024 : Shape := ⟨3, ![2, 1, 1024]⟩
abbrev S1024 : Shape := ⟨1, ![1024]⟩
abbrev S1x1x1024 : Shape := ⟨3, ![1, 1, 1024]⟩
abbrev S1x1024x1 : Shape := ⟨3, ![1, 1024, 1]⟩
abbrev S1x1024x1024 : Shape := ⟨3, ![1, 1024, 1024]⟩
abbrev S2048x1024 : Shape := ⟨2, ![2048, 1024]⟩

abbrev nBuf : Space → Nat
  | .hbm => 233
  | .vmem => 0
  | .smem => 0
  | _ => 0

abbrev hbmTy0_0 (i : Nat) : BufTy := match i % 128 with
  | 0 => ⟨S2048x1536, .f32⟩
  | 1 => ⟨S2048x2048, .f32⟩
  | 2 => ⟨S2048, .i32⟩
  | 3 => ⟨S2, .i32⟩
  | 4 => ⟨S1536x2048, .f32⟩
  | 5 => ⟨S2048x128, .f32⟩
  | 6 => ⟨S128, .f32⟩
  | 7 => ⟨S128, .f32⟩
  | 8 => ⟨S2048x16, .f32⟩
  | 9 => ⟨S_, .f32⟩
  | 10 => ⟨S1, .f32⟩
  | 11 => ⟨S_, .f32⟩
  | 12 => ⟨S1, .f32⟩
  | 13 => ⟨S_, .f32⟩
  | 14 => ⟨S1, .f32⟩
  | 15 => ⟨S_, .f32⟩
  | 16 => ⟨S1, .f32⟩
  | 17 => ⟨S_, .f32⟩
  | 18 => ⟨S1, .f32⟩
  | 19 => ⟨S_, .f32⟩
  | 20 => ⟨S1, .f32⟩
  | 21 => ⟨S_, .f32⟩
  | 22 => ⟨S1, .f32⟩
  | 23 => ⟨S_, .f32⟩
  | 24 => ⟨S1, .f32⟩
  | 25 => ⟨S_, .f32⟩
  | 26 => ⟨S1, .f32⟩
  | 27 => ⟨S_, .f32⟩
  | 28 => ⟨S1, .f32⟩
  | 29 => ⟨S_, .f32⟩
  | 30 => ⟨S1, .f32⟩
  | 31 => ⟨S_, .f32⟩
  | 32 => ⟨S1, .f32⟩
  | 33 => ⟨S_, .f32⟩
  | 34 => ⟨S1, .f32⟩
  | 35 => ⟨S_, .f32⟩
  | 36 => ⟨S1, .f32⟩
  | 37 => ⟨S_, .f32⟩
  | 38 => ⟨S1, .f32⟩
  | 39 => ⟨S_, .f32⟩
  | 40 => ⟨S1, .f32⟩
  | 41 => ⟨S_, .f32⟩
  | 42 => ⟨S1, .f32⟩
  | 43 => ⟨S_, .f32⟩
  | 44 => ⟨S1, .f32⟩
  | 45 => ⟨S_, .f32⟩
  | 46 => ⟨S1, .f32⟩
  | 47 => ⟨S_, .f32⟩
  | 48 => ⟨S1, .f32⟩
  | 49 => ⟨S_, .f32⟩
  | 50 => ⟨S1, .f32⟩
  | 51 => ⟨S_, .f32⟩
  | 52 => ⟨S1, .f32⟩
  | 53 => ⟨S_, .f32⟩
  | 54 => ⟨S1, .f32⟩
  | 55 => ⟨S_, .f32⟩
  | 56 => ⟨S1, .f32⟩
  | 57 => ⟨S_, .f32⟩
  | 58 => ⟨S1, .f32⟩
  | 59 => ⟨S_, .f32⟩
  | 60 => ⟨S1, .f32⟩
  | 61 => ⟨S_, .f32⟩
  | 62 => ⟨S1, .f32⟩
  | 63 => ⟨S_, .f32⟩
  | 64 => ⟨S1, .f32⟩
  | 65 => ⟨S_, .f32⟩
  | 66 => ⟨S1, .f32⟩
  | 67 => ⟨S_, .f32⟩
  | 68 => ⟨S1, .f32⟩
  | 69 => ⟨S_, .f32⟩
  | 70 => ⟨S1, .f32⟩
  | 71 => ⟨S_, .f32⟩
  | 72 => ⟨S1, .f32⟩
  | 73 => ⟨S16, .f32⟩
  | 74 => ⟨S16, .f32⟩
  | 75 => ⟨S32, .f32⟩
  | 76 => ⟨S2048, .f32⟩
  | 77 => ⟨S2048x1, .f32⟩
  | 78 => ⟨S1x32, .f32⟩
  | 79 => ⟨S2048x32, .f32⟩
  | 80 => ⟨S2048x32, .f32⟩
  | 81 => ⟨S2048x32, .f32⟩
  | 82 => ⟨S2048x32, .f32⟩
  | 83 => ⟨S2048x32, .f32⟩
  | 84 => ⟨S2048x2048, .f32⟩
  | 85 => ⟨S2048x16x128, .f32⟩
  | 86 => ⟨S2048x16x64, .f32⟩
  | 87 => ⟨S2048x1x32, .f32⟩
  | 88 => ⟨S2048x1x32, .f32⟩
  | 89 => ⟨S2048x16x32, .f32⟩
  | 90 => ⟨S2048x16x32, .f32⟩
  | 91 => ⟨S2048x16x32, .f32⟩
  | 92 => ⟨S2048x16x32, .f32⟩
  | 93 => ⟨S2048x16x32, .f32⟩
  | 94 => ⟨S2048x16x32, .f32⟩
  | 95 => ⟨S2048x16x32, .f32⟩
  | 96 => ⟨S2048x16x32, .f32⟩
  | 97 => ⟨S2048x16x32, .f32⟩
  | 98 => ⟨S2048x16x32, .f32⟩
  | 99 => ⟨S2048x16x32, .f32⟩
  | 100 => ⟨S2048x16x32, .f32⟩
  | 101 => ⟨S2048x16x64, .f32⟩
  | 102 => ⟨S2048x16x64, .f32⟩
  | 103 => ⟨S2048x16x128, .f32⟩
  | 104 => ⟨S2048x128, .f32⟩
  | 105 => ⟨S_, .f32⟩
  | 106 => ⟨S2048, .f32⟩
  | 107 => ⟨S2048x1, .f32⟩
  | 108 => ⟨S_, .f32⟩
  | 109 => ⟨S2048x1, .f32⟩
  | 110 => ⟨S2048x1, .f32⟩
  | 111 => ⟨S2048x128, .f32⟩
  | 112 => ⟨S2048x128, .f32⟩
  | 113 => ⟨S2048x128, .f32⟩
  | 114 => ⟨S_, .f32⟩
  | 115 => ⟨S2048, .f32⟩
  | 116 => ⟨S2048x1, .f32⟩
  | 117 => ⟨S_, .f32⟩
  | 118 => ⟨S2048x1, .f32⟩
  | 119 => ⟨S2048x1, .f32⟩
  | 120 => ⟨S2048x128, .f32⟩
  | 121 => ⟨S2048x128, .f32⟩
  | 122 => ⟨S_, .f32⟩
  | 123 => ⟨S2048x1, .f32⟩
  | 124 => ⟨S2048x1, .f32⟩
  | 125 => ⟨S2048x1, .f32⟩
  | 126 => ⟨S2048x128, .f32⟩
  | 127 => ⟨S2048x128, .f32⟩
  | _ => ⟨S2048x1536, .f32⟩

abbrev hbmTy0_1 (i : Nat) : BufTy := match i % 128 with
  | 0 => ⟨S1x128, .f32⟩
  | 1 => ⟨S2048x128, .f32⟩
  | 2 => ⟨S2048x128, .f32⟩
  | 3 => ⟨S1x128, .f32⟩
  | 4 => ⟨S2048x128, .f32⟩
  | 5 => ⟨S2048x128, .f32⟩
  | 6 => ⟨S2048x64, .f32⟩
  | 7 => ⟨S2048x32, .f32⟩
  | 8 => ⟨S2048x32, .f32⟩
  | 9 => ⟨S2048x32, .f32⟩
  | 10 => ⟨S2048x32, .f32⟩
  | 11 => ⟨S2048x32, .f32⟩
  | 12 => ⟨S2048x32, .f32⟩
  | 13 => ⟨S2048x32, .f32⟩
  | 14 => ⟨S2048x32, .f32⟩
  | 15 => ⟨S2048x64, .f32⟩
  | 16 => ⟨S2048x64, .f32⟩
  | 17 => ⟨S2048x128, .f32⟩
  | 18 => ⟨S2048x16x128, .f32⟩
  | 19 => ⟨S_, .f32⟩
  | 20 => ⟨S2048x16, .f32⟩
  | 21 => ⟨S2048x16x1, .f32⟩
  | 22 => ⟨S_, .f32⟩
  | 23 => ⟨S2048x16x1, .f32⟩
  | 24 => ⟨S2048x16x1, .f32⟩
  | 25 => ⟨S_, .f32⟩
  | 26 => ⟨S2048x16x1, .f32⟩
  | 27 => ⟨S2048x16x1, .f32⟩
  | 28 => ⟨S2048x16x1, .f32⟩
  | 29 => ⟨S_, .f32⟩
  | 30 => ⟨S2048x16x1, .f32⟩
  | 31 => ⟨S2048x16x1, .f32⟩
  | 32 => ⟨S2048x16x1, .f32⟩
  | 33 => ⟨S_, .f32⟩
  | 34 => ⟨S2048x16x1, .f32⟩
  | 35 => ⟨S2048x16x1, .f32⟩
  | 36 => ⟨S2048x16x1, .f32⟩
  | 37 => ⟨S2048x16x128, .f32⟩
  | 38 => ⟨S2048x16x128, .f32⟩
  | 39 => ⟨S2048x128, .f32⟩
  | 40 => ⟨S_, .f32⟩
  | 41 => ⟨S2048, .f32⟩
  | 42 => ⟨S2048x1, .f32⟩
  | 43 => ⟨S_, .f32⟩
  | 44 => ⟨S2048x1, .f32⟩
  | 45 => ⟨S2048x1, .f32⟩
  | 46 => ⟨S_, .f32⟩
  | 47 => ⟨S2048x1, .f32⟩
  | 48 => ⟨S2048x1, .f32⟩
  | 49 => ⟨S2048x1, .f32⟩
  | 50 => ⟨S_, .f32⟩
  | 51 => ⟨S2048x1, .f32⟩
  | 52 => ⟨S2048x1, .f32⟩
  | 53 => ⟨S2048x1, .f32⟩
  | 54 => ⟨S_, .f32⟩
  | 55 => ⟨S2048x1, .f32⟩
  | 56 => ⟨S2048x1, .f32⟩
  | 57 => ⟨S2048x1, .f32⟩
  | 58 => ⟨S2048x128, .f32⟩
  | 59 => ⟨S2048x128, .f32⟩
  | 60 => ⟨S2048x16, .f32⟩
  | 61 => ⟨S2048x16, .f32⟩
  | 62 => ⟨S2048x16, .f32⟩
  | 63 => ⟨S_, .f32⟩
  | 64 => ⟨S2048x16, .f32⟩
  | 65 => ⟨S2048x16, .f32⟩
  | 66 => ⟨S_, .f32⟩
  | 67 => ⟨S2048x16, .f32⟩
  | 68 => ⟨S2048x16, .f32⟩
  | 69 => ⟨S2x1024x16x128, .f32⟩
  | 70 => ⟨S2x1024x128, .f32⟩
  | 71 => ⟨S2x1024x16x1024, .f32⟩
  | 72 => ⟨S_, .f32⟩
  | 73 => ⟨S2x1024x16x1024, .f32⟩
  | 74 => ⟨S2x1024x16x1024, .f32⟩
  | 75 => ⟨S2x1024x16x1, .f32⟩
  | 76 => ⟨S2x1024x16x1024, .f32⟩
  | 77 => ⟨S2x1024x16x1024, .f32⟩
  | 78 => ⟨S_, .f32⟩
  | 79 => ⟨S2x1024x1024, .f32⟩
  | 80 => ⟨S2x1x1024, .f32⟩
  | 81 => ⟨S2x1024x1024, .f32⟩
  | 82 => ⟨S2x1024x1024, .f32⟩
  | 83 => ⟨S1024, .i32⟩
  | 84 => ⟨S1x1x1024, .i32⟩
  | 85 => ⟨S1x1024x1, .i32⟩
  | 86 => ⟨S1x1024x1024, .i32⟩
  | 87 => ⟨S1x1024x1024, .i32⟩
  | 88 => ⟨S1x1024x1024, .i1⟩
  | 89 => ⟨S_, .f32⟩
  | 90 => ⟨S_, .f32⟩
  | 91 => ⟨S2x1024x1024, .i1⟩
  | 92 => ⟨S2x1024x1024, .f32⟩
  | 93 => ⟨S2x1024x1024, .f32⟩
  | 94 => ⟨S2x1024x1024, .f32⟩
  | 95 => ⟨S2x1024x1024, .i32⟩
  | 96 => ⟨S1x1024x1, .i32⟩
  | 97 => ⟨S2x1024x1024, .i32⟩
  | 98 => ⟨S2x1024x1024, .i1⟩
  | 99 => ⟨S_, .i32⟩
  | 100 => ⟨S_, .i32⟩
  | 101 => ⟨S2x1024x1024, .i32⟩
  | 102 => ⟨S2x1024x1024, .i32⟩
  | 103 => ⟨S2048x1024, .f32⟩
  | 104 => ⟨S2048x1024, .i32⟩
  | _ => ⟨S2048x1536, .f32⟩

abbrev hbmTy (i : Nat) : BufTy := match i / 128 with
  | 0 => hbmTy0_0 i
  | 1 => hbmTy0_1 i
  | _ => ⟨S2048x1536, .f32⟩

abbrev bufTy : (tb : Table) → Fin (tcTables nBuf tb) → BufTy
  | .hbm, ⟨i, _⟩ => hbmTy i
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_cst_2 : Ref sig .tc := ⟨.hbm, 15, rfl⟩
abbrev main_v3 : Ref sig .tc := ⟨.hbm, 16, rfl⟩
abbrev main_cst_3 : Ref sig .tc := ⟨.hbm, 17, rfl⟩
abbrev main_v4 : Ref sig .tc := ⟨.hbm, 18, rfl⟩
abbrev main_cst_4 : Ref sig .tc := ⟨.hbm, 19, rfl⟩
abbrev main_v5 : Ref sig .tc := ⟨.hbm, 20, rfl⟩
abbrev main_cst_5 : Ref sig .tc := ⟨.hbm, 21, rfl⟩
abbrev main_v6 : Ref sig .tc := ⟨.hbm, 22, rfl⟩
abbrev main_cst_6 : Ref sig .tc := ⟨.hbm, 23, rfl⟩
abbrev main_v7 : Ref sig .tc := ⟨.hbm, 24, rfl⟩
abbrev main_cst_7 : Ref sig .tc := ⟨.hbm, 25, rfl⟩
abbrev main_v8 : Ref sig .tc := ⟨.hbm, 26, rfl⟩
abbrev main_cst_8 : Ref sig .tc := ⟨.hbm, 27, rfl⟩
abbrev main_v9 : Ref sig .tc := ⟨.hbm, 28, rfl⟩
abbrev main_cst_9 : Ref sig .tc := ⟨.hbm, 29, rfl⟩
abbrev main_v10 : Ref sig .tc := ⟨.hbm, 30, rfl⟩
abbrev main_cst_10 : Ref sig .tc := ⟨.hbm, 31, rfl⟩
abbrev main_v11 : Ref sig .tc := ⟨.hbm, 32, rfl⟩
abbrev main_cst_11 : Ref sig .tc := ⟨.hbm, 33, rfl⟩
abbrev main_v12 : Ref sig .tc := ⟨.hbm, 34, rfl⟩
abbrev main_cst_12 : Ref sig .tc := ⟨.hbm, 35, rfl⟩
abbrev main_v13 : Ref sig .tc := ⟨.hbm, 36, rfl⟩
abbrev main_cst_13 : Ref sig .tc := ⟨.hbm, 37, rfl⟩
abbrev main_v14 : Ref sig .tc := ⟨.hbm, 38, rfl⟩
abbrev main_cst_14 : Ref sig .tc := ⟨.hbm, 39, rfl⟩
abbrev main_v15 : Ref sig .tc := ⟨.hbm, 40, rfl⟩
abbrev main_cst_15 : Ref sig .tc := ⟨.hbm, 41, rfl⟩
abbrev main_v16 : Ref sig .tc := ⟨.hbm, 42, rfl⟩
abbrev main_cst_16 : Ref sig .tc := ⟨.hbm, 43, rfl⟩
abbrev main_v17 : Ref sig .tc := ⟨.hbm, 44, rfl⟩
abbrev main_cst_17 : Ref sig .tc := ⟨.hbm, 45, rfl⟩
abbrev main_v18 : Ref sig .tc := ⟨.hbm, 46, rfl⟩
abbrev main_cst_18 : Ref sig .tc := ⟨.hbm, 47, rfl⟩
abbrev main_v19 : Ref sig .tc := ⟨.hbm, 48, rfl⟩
abbrev main_cst_19 : Ref sig .tc := ⟨.hbm, 49, rfl⟩
abbrev main_v20 : Ref sig .tc := ⟨.hbm, 50, rfl⟩
abbrev main_cst_20 : Ref sig .tc := ⟨.hbm, 51, rfl⟩
abbrev main_v21 : Ref sig .tc := ⟨.hbm, 52, rfl⟩
abbrev main_cst_21 : Ref sig .tc := ⟨.hbm, 53, rfl⟩
abbrev main_v22 : Ref sig .tc := ⟨.hbm, 54, rfl⟩
abbrev main_cst_22 : Ref sig .tc := ⟨.hbm, 55, rfl⟩
abbrev main_v23 : Ref sig .tc := ⟨.hbm, 56, rfl⟩
abbrev main_cst_23 : Ref sig .tc := ⟨.hbm, 57, rfl⟩
abbrev main_v24 : Ref sig .tc := ⟨.hbm, 58, rfl⟩
abbrev main_cst_24 : Ref sig .tc := ⟨.hbm, 59, rfl⟩
abbrev main_v25 : Ref sig .tc := ⟨.hbm, 60, rfl⟩
abbrev main_cst_25 : Ref sig .tc := ⟨.hbm, 61, rfl⟩
abbrev main_v26 : Ref sig .tc := ⟨.hbm, 62, rfl⟩
abbrev main_cst_26 : Ref sig .tc := ⟨.hbm, 63, rfl⟩
abbrev main_v27 : Ref sig .tc := ⟨.hbm, 64, rfl⟩
abbrev main_cst_27 : Ref sig .tc := ⟨.hbm, 65, rfl⟩
abbrev main_v28 : Ref sig .tc := ⟨.hbm, 66, rfl⟩
abbrev main_cst_28 : Ref sig .tc := ⟨.hbm, 67, rfl⟩
abbrev main_v29 : Ref sig .tc := ⟨.hbm, 68, rfl⟩
abbrev main_cst_29 : Ref sig .tc := ⟨.hbm, 69, rfl⟩
abbrev main_v30 : Ref sig .tc := ⟨.hbm, 70, rfl⟩
abbrev main_cst_30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_31 : Ref sig .tc := ⟨.hbm, 105, rfl⟩
abbrev main_v64 : Ref sig .tc := ⟨.hbm, 106, rfl⟩
abbrev main_v65 : Ref sig .tc := ⟨.hbm, 107, rfl⟩
abbrev main_cst_32 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_33 : Ref sig .tc := ⟨.hbm, 114, rfl⟩
abbrev main_v71 : Ref sig .tc := ⟨.hbm, 115, rfl⟩
abbrev main_v72 : Ref sig .tc := ⟨.hbm, 116, rfl⟩
abbrev main_cst_34 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_35 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_36 : Ref sig .tc := ⟨.hbm, 147, rfl⟩
abbrev main_v101 : Ref sig .tc := ⟨.hbm, 148, rfl⟩
abbrev main_v102 : Ref sig .tc := ⟨.hbm, 149, rfl⟩
abbrev main_cst_37 : Ref sig .tc := ⟨.hbm, 150, rfl⟩
abbrev main_v103 : Ref sig .tc := ⟨.hbm, 151, rfl⟩
abbrev main_v104 : Ref sig .tc := ⟨.hbm, 152, rfl⟩
abbrev main_cst_38 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_cst_39 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_cst_40 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_41 : Ref sig .tc := ⟨.hbm, 168, rfl⟩
abbrev main_v117 : Ref sig .tc := ⟨.hbm, 169, rfl⟩
abbrev main_v118 : Ref sig .tc := ⟨.hbm, 170, rfl⟩
abbrev main_cst_42 : Ref sig .tc := ⟨.hbm, 171, rfl⟩
abbrev main_v119 : Ref sig .tc := ⟨.hbm, 172, rfl⟩
abbrev main_v120 : Ref sig .tc := ⟨.hbm, 173, rfl⟩
abbrev main_cst_43 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_cst_44 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_cst_45 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_cst_46 : Ref sig .tc := ⟨.hbm, 191, rfl⟩
abbrev main_v135 : Ref sig .tc := ⟨.hbm, 192, rfl⟩
abbrev main_v136 : Ref sig .tc := ⟨.hbm, 193, rfl⟩
abbrev main_cst_47 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_call0_cst : Ref sig .tc := ⟨.hbm, 200, rfl⟩
abbrev main_call0_v0 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_cst_48 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_cst_49 : Ref sig .tc := ⟨.hbm, 217, rfl⟩
abbrev main_call1_v0 : Ref sig .tc := ⟨.hbm, 218, rfl⟩
abbrev main_call1_v1 : Ref sig .tc := ⟨.hbm, 219, rfl⟩
abbrev main_call1_v2 : Ref sig .tc := ⟨.hbm, 220, rfl⟩
abbrev main_v156 : Ref sig .tc := ⟨.hbm, 221, rfl⟩
abbrev main_values : Ref sig .tc := ⟨.hbm, 222, rfl⟩
abbrev main_indices : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_c : Ref sig .tc := ⟨.hbm, 227, rfl⟩
abbrev main_call2_v0 : Ref sig .tc := ⟨.hbm, 228, rfl⟩
abbrev main_call2_v1 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩

abbrev nD : Nat := 1
abbrev τ : Topo := Topo.v7x

variable {F : FTy → Type} [FloatOps F]
-- ==== Proof.Results.lean ====
/-
  The run of the two calls and the host operations around them: where the result arrays end.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

set_option backward.isDefEq.respectTransparency.types false in
/-- The program from any memory: the two result arrays end as the second call leaves them, and the arguments as they
    were. -/
theorem run_results : θ_run defs (onTc (τ := τ) (main (F := F))) ⟨m, fun _ => 0, ρ⟩ (fun r => ∀ c : Dev nD,
      r.2.mem ((c.tc : Thread nD τ).loc main_v81_0) = W4 m ρ c (Proc.devRef .tc main_v81_0)
      ∧ r.2.mem ((c.tc : Thread nD τ).loc main_v81_1) = W4 m ρ c (Proc.devRef .tc main_v81_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v81_0 (by decide)), h c _ (mem_uc main_v81_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Gen

end

end
-- ==== Proof.Moves.lean ====
/-
  How a tile of 1024 rows and 128 columns is taken apart and put together again by the sorting network's stages: the
  rows are split into groups and halves by a change of shape, a half is cut out by a slice, two halves are joined by a
  concatenation, and the rows of a group are shifted round. Each of these is stated once for all extents, and for each
  there is a lemma that reads it at an index.
-/
module

public import Idealize.ShloMosaic.PureOps
public import Idealize.ShloMosaic.Lib.ValueIdx
public import Idealize.ShloMosaic.Lib.ValueIdxCoords
public import Idealize.ShloMosaic.Lib.ValueIdxRank6
public import Idealize.ShloMosaic.Lib.Pipeline.Value
public import Idealize.ShloMosaic.Lib.ShapeFacts

@[expose] public section

namespace Cert.Proof.Sort

open Idealize.ShloMosaic Idealize.ShloMosaic.ValueIdx

/-- The shape of the tile that is sorted, column by column. -/
abbrev Tile : Shape := ⟨2, ![1024, 128]⟩

variable {α : Type}

/-! ### Facts about the shapes -/

/-- The rows split into `g` groups of two halves of `j` rows. -/
theorem cast_four {g j : ℕ} (h : g * 2 * j = 1024) : Tile.ShapeCasts ⟨4, ![g, 2, j, 128]⟩ := by
  simp only [Shape.ShapeCasts, Shape.numel, Fin.prod_univ_succ]
  simp
  have e : g * (2 * (j * 128)) = g * 2 * j * 128 := by ring
  rw [e, h]

theorem cast_four' {g j : ℕ} (h : g * 2 * j = 1024) : Shape.ShapeCasts ⟨4, ![g, 2, j, 128]⟩ Tile :=
  (cast_four h).symm

/-- A single half without its axis of extent one. -/
theorem cast_half (g j : ℕ) : Shape.ShapeCasts ⟨4, ![g, 1, j, 128]⟩ ⟨3, ![g, j, 128]⟩ := by
  simp [Shape.ShapeCasts, Shape.numel, Fin.prod_univ_succ]

theorem cast_half' (g j : ℕ) : Shape.ShapeCasts ⟨3, ![g, j, 128]⟩ ⟨4, ![g, 1, j, 128]⟩ :=
  (cast_half g j).symm

theorem slice_half {g j p : ℕ} (hp : p < 2) :
    Shape.Slices ⟨4, ![g, 2, j, 128]⟩ ![0, p, 0, 0] ⟨4, ![g, 1, j, 128]⟩ :=
  ⟨rfl, fun a => by fin_cases a <;> simp; omega⟩

theorem concat_half (g j : ℕ) :
    Shape.Concatenates [⟨4, ![g, 1, j, 128]⟩, ⟨4, ![g, 1, j, 128]⟩] ⟨4, ![g, 2, j, 128]⟩ 1 := by
  refine ⟨by simp, ?_, by simp⟩
  intro s hs
  simp only [List.mem_cons, List.not_mem_nil, or_false, or_self] at hs
  subst hs
  exact ⟨rfl, fun b hb => by fin_cases b <;> simp_all⟩

/-- The rows split at two levels. -/
theorem cast_six {d m j : ℕ} (h : d * 2 * m * 2 * j = 1024) :
    Tile.ShapeCasts ⟨6, ![d, 2, m, 2, j, 128]⟩ := by
  simp only [Shape.ShapeCasts, Shape.numel, Fin.prod_univ_succ]
  simp
  have e : d * (2 * (m * (2 * (j * 128)))) = d * 2 * m * 2 * j * 128 := by ring
  rw [e, h]

theorem cast_six_four (d m j : ℕ) :
    Shape.ShapeCasts ⟨6, ![d, 1, m, 1, j, 128]⟩ ⟨4, ![d, m, j, 128]⟩ := by
  simp [Shape.ShapeCasts, Shape.numel, Fin.prod_univ_succ]

theorem slice_six {d m j p b : ℕ} (hp : p < 2) (hb : b < 2) :
    Shape.Slices ⟨6, ![d, 2, m, 2, j, 128]⟩ ![0, p, 0, b, 0, 0] ⟨6, ![d, 1, m, 1, j, 128]⟩ :=
  ⟨rfl, fun a => by fin_cases a <;> simp <;> omega⟩

theorem cast_four_five (d m j : ℕ) :
    Shape.ShapeCasts ⟨4, ![d, m, j, 128]⟩ ⟨5, ![d, m, 1, j, 128]⟩ := by
  simp [Shape.ShapeCasts, Shape.numel, Fin.prod_univ_succ]

theorem concat_five (d m j : ℕ) :
    Shape.Concatenates [⟨5, ![d, m, 1, j, 128]⟩, ⟨5, ![d, m, 1, j, 128]⟩] ⟨5, ![d, m, 2, j, 128]⟩ 2 := by
  refine ⟨by simp, ?_, by simp⟩
  intro s hs
  simp only [List.mem_cons, List.not_mem_nil, or_false, or_self] at hs
  subst hs
  exact ⟨rfl, fun b hb => by fin_cases b <;> simp_all⟩

theorem cast_five_six (d m j : ℕ) :
    Shape.ShapeCasts ⟨5, ![d, m, 2, j, 128]⟩ ⟨6, ![d, 1, m, 2, j, 128]⟩ := by
  simp [Shape.ShapeCasts, Shape.numel, Fin.prod_univ_succ]

theorem concat_six (d m j : ℕ) :
    Shape.Concatenates [⟨6, ![d, 1, m, 2, j, 128]⟩, ⟨6, ![d, 1, m, 2, j, 128]⟩] ⟨6, ![d, 2, m, 2, j, 128]⟩ 1 := by
  refine ⟨by simp, ?_, by simp⟩
  intro s hs
  simp only [List.mem_cons, List.not_mem_nil, or_false, or_self] at hs
  subst hs
  exact ⟨rfl, fun b hb => by fin_cases b <;> simp_all⟩

/-- Some consecutive rows of every group. -/
theorem slice_rows {g k o r : ℕ} (h : o + r ≤ k) :
    Shape.Slices ⟨3, ![g, k, 128]⟩ ![0, o, 0] ⟨3, ![g, r, 128]⟩ :=
  ⟨rfl, fun a => by fin_cases a <;> simp; omega⟩

theorem concat_rows {g k r s : ℕ} (h : r + s = k) :
    Shape.Concatenates [⟨3, ![g, r, 128]⟩, ⟨3, ![g, s, 128]⟩] ⟨3, ![g, k, 128]⟩ 1 := by
  refine ⟨by simp, ?_, by simp; omega⟩
  intro u hu
  simp only [List.mem_cons, List.not_mem_nil, or_false] at hu
  rcases hu with rfl | rfl <;> exact ⟨rfl, fun b hb => by fin_cases b <;> simp_all⟩

/-- Some consecutive rows of the tile. -/
theorem slice_tile {o r : ℕ} (h : o + r ≤ 1024) : Shape.Slices Tile ![o, 0] ⟨2, ![r, 128]⟩ :=
  ⟨rfl, fun a => by fin_cases a <;> simp; omega⟩

theorem concat_tile {r s : ℕ} (h : r + s = 1024) :
    Shape.Concatenates [⟨2, ![r, 128]⟩, ⟨2, ![s, 128]⟩] Tile 0 := by
  refine ⟨by simp, ?_, by simp; omega⟩
  intro u hu
  simp only [List.mem_cons, List.not_mem_nil, or_false] at hu
  rcases hu with rfl | rfl <;> exact ⟨rfl, fun b hb => by fin_cases b <;> simp_all⟩

/-! ### The moves -/

/-- Half `p` of every group, from the split form. -/
def cut4 {g j : ℕ} (p : ℕ) (hp : p < 2) (x : Shape.Idx ⟨4, ![g, 2, j, 128]⟩ → α) :
    Shape.Idx ⟨3, ![g, j, 128]⟩ → α :=
  shapeCast ⟨3, ![g, j, 128]⟩
    (extractStridedSlice ⟨4, ![g, 1, j, 128]⟩ ![0, p, 0, 0] x (slice_half hp)) (cast_half g j)

/-- Half `p` of every group of the tile. -/
def half4 {g j : ℕ} (h : g * 2 * j = 1024) (p : ℕ) (hp : p < 2) (x : Tile.Idx → α) :
    Shape.Idx ⟨3, ![g, j, 128]⟩ → α :=
  cut4 p hp (shapeCast ⟨4, ![g, 2, j, 128]⟩ x (cast_four h))

/-- The tile with the two given halves of every group. -/
def join4 {g j : ℕ} (h : g * 2 * j = 1024) (x y : Shape.Idx ⟨3, ![g, j, 128]⟩ → α) : Tile.Idx → α :=
  shapeCast Tile
    (concatenate ⟨4, ![g, 2, j, 128]⟩ 1
      [⟨⟨4, ![g, 1, j, 128]⟩, shapeCast ⟨4, ![g, 1, j, 128]⟩ x (cast_half' g j)⟩,
       ⟨⟨4, ![g, 1, j, 128]⟩, shapeCast ⟨4, ![g, 1, j, 128]⟩ y (cast_half' g j)⟩] (concat_half g j))
    (cast_four' h)

/-- Half `b` of every group inside half `p` of every greater group. -/
def half6 {d m j : ℕ} (h : d * 2 * m * 2 * j = 1024) (p b : ℕ) (hp : p < 2) (hb : b < 2) (x : Tile.Idx → α) :
    Shape.Idx ⟨4, ![d, m, j, 128]⟩ → α :=
  shapeCast ⟨4, ![d, m, j, 128]⟩
    (extractStridedSlice ⟨6, ![d, 1, m, 1, j, 128]⟩ ![0, p, 0, b, 0, 0]
      (shapeCast ⟨6, ![d, 2, m, 2, j, 128]⟩ x (cast_six h)) (slice_six hp hb)) (cast_six_four d m j)

/-- Two halves joined inside their group. -/
def pair6 {d m j : ℕ} (x y : Shape.Idx ⟨4, ![d, m, j, 128]⟩ → α) : Shape.Idx ⟨6, ![d, 1, m, 2, j, 128]⟩ → α :=
  shapeCast ⟨6, ![d, 1, m, 2, j, 128]⟩
    (concatenate ⟨5, ![d, m, 2, j, 128]⟩ 2
      [⟨⟨5, ![d, m, 1, j, 128]⟩, shapeCast ⟨5, ![d, m, 1, j, 128]⟩ x (cast_four_five d m j)⟩,
       ⟨⟨5, ![d, m, 1, j, 128]⟩, shapeCast ⟨5, ![d, m, 1, j, 128]⟩ y (cast_four_five d m j)⟩] (concat_five d m j))
    (cast_five_six d m j)

/-- The tile with the four given parts. -/
def join6 {d m j : ℕ} (h : d * 2 * m * 2 * j = 1024) (x y z w : Shape.Idx ⟨4, ![d, m, j, 128]⟩ → α) :
    Tile.Idx → α :=
  shapeCast Tile
    (concatenate ⟨6, ![d, 2, m, 2, j, 128]⟩ 1
      [⟨⟨6, ![d, 1, m, 2, j, 128]⟩, pair6 x y⟩, ⟨⟨6, ![d, 1, m, 2, j, 128]⟩, pair6 z w⟩] (concat_six d m j))
    (cast_six h).symm

/-- The rows of every group shifted up by `j`, the first `j` going to the end. -/
def up3 {g k : ℕ} (j r : ℕ) (h : j + r = k) (x : Shape.Idx ⟨3, ![g, k, 128]⟩ → α) : Shape.Idx ⟨3, ![g, k, 128]⟩ → α :=
  concatenate ⟨3, ![g, k, 128]⟩ 1
    [⟨⟨3, ![g, r, 128]⟩, extractStridedSlice ⟨3, ![g, r, 128]⟩ ![0, j, 0] x (slice_rows (by omega))⟩,
     ⟨⟨3, ![g, j, 128]⟩, extractStridedSlice ⟨3, ![g, j, 128]⟩ ![0, 0, 0] x (slice_rows (by omega))⟩]
    (concat_rows (by omega))

/-- The rows of every group shifted down by `j`, the last `j` going to the front. -/
def down3 {g k : ℕ} (j r : ℕ) (h : j + r = k) (x : Shape.Idx ⟨3, ![g, k, 128]⟩ → α) :
    Shape.Idx ⟨3, ![g, k, 128]⟩ → α :=
  concatenate ⟨3, ![g, k, 128]⟩ 1
    [⟨⟨3, ![g, j, 128]⟩, extractStridedSlice ⟨3, ![g, j, 128]⟩ ![0, r, 0] x (slice_rows (by omega))⟩,
     ⟨⟨3, ![g, r, 128]⟩, extractStridedSlice ⟨3, ![g, r, 128]⟩ ![0, 0, 0] x (slice_rows (by omega))⟩]
    (concat_rows (by omega))

/-- The rows of the tile shifted up by `j`. -/
def up2 (j r : ℕ) (h : j + r = 1024) (x : Tile.Idx → α) : Tile.Idx → α :=
  concatenate Tile 0
    [⟨⟨2, ![r, 128]⟩, extractStridedSlice ⟨2, ![r, 128]⟩ ![j, 0] x (slice_tile (by omega))⟩,
     ⟨⟨2, ![j, 128]⟩, extractStridedSlice ⟨2, ![j, 128]⟩ ![0, 0] x (slice_tile (by omega))⟩]
    (concat_tile (by omega))

/-- The rows of the tile shifted down by `j`. -/
def down2 (j r : ℕ) (h : j + r = 1024) (x : Tile.Idx → α) : Tile.Idx → α :=
  concatenate Tile 0
    [⟨⟨2, ![j, 128]⟩, extractStridedSlice ⟨2, ![j, 128]⟩ ![r, 0] x (slice_tile (by omega))⟩,
     ⟨⟨2, ![r, 128]⟩, extractStridedSlice ⟨2, ![r, 128]⟩ ![0, 0] x (slice_tile (by omega))⟩]
    (concat_tile (by omega))

/-! ### The moves at an index -/

theorem half4_apply {g j : ℕ} (h : g * 2 * j = 1024) (p : ℕ) (hp : p < 2) (x : Tile.Idx → α) (a : Fin g) (y : Fin j)
    (c : Fin 128) (q : Fin 1024) (hq : q.val = (a.val * 2 + p) * j + y.val) :
    half4 h p hp x (ix3 a y c) = x (ix2 q c) := by
  unfold half4 cut4
  rw [shapeCast_apply _ _ (ix3 a y c) (ix4 a (0 : Fin 1) y c)
      (by rw [Shape.rowMajor_val_four, Shape.rowMajor_val_three]; simp),
    extractStridedSlice_apply _ _ _ (ix4 a (0 : Fin 1) y c) (ix4 a (⟨p, hp⟩ : Fin 2) y c)
      (fun b => by fin_cases b <;> simp),
    shapeCast_apply _ _ _ (ix2 q c) (by rw [Shape.rowMajor_val_four, Shape.rowMajor_val_two]; simp [hq])]

theorem join4_apply_zero {g j : ℕ} (h : g * 2 * j = 1024) (x y : Shape.Idx ⟨3, ![g, j, 128]⟩ → α) (a : Fin g)
    (e : Fin j) (c : Fin 128) (q : Fin 1024) (hq : q.val = (a.val * 2 + 0) * j + e.val) :
    join4 h x y (ix2 q c) = x (ix3 a e c) := by
  unfold join4
  rw [shapeCast_apply _ _ (ix2 q c) (ix4 a (0 : Fin 2) e c)
      (by rw [Shape.rowMajor_val_four, Shape.rowMajor_val_two]; simp [hq]),
    concatenate_pair_apply_left (s₁ := ⟨4, ![g, 1, j, 128]⟩) (s₂ := ⟨4, ![g, 1, j, 128]⟩)
      _ _ _ _ (ix4 a (0 : Fin 2) e c) rfl (ix4 a (0 : Fin 1) e c)
      (fun b => by fin_cases b <;> simp),
    shapeCast_apply _ _ _ (ix3 a e c) (by rw [Shape.rowMajor_val_four, Shape.rowMajor_val_three]; simp)]

theorem join4_apply_one {g j : ℕ} (h : g * 2 * j = 1024) (x y : Shape.Idx ⟨3, ![g, j, 128]⟩ → α) (a : Fin g)
    (e : Fin j) (c : Fin 128) (q : Fin 1024) (hq : q.val = (a.val * 2 + 1) * j + e.val) :
    join4 h x y (ix2 q c) = y (ix3 a e c) := by
  unfold join4
  rw [shapeCast_apply _ _ (ix2 q c) (ix4 a (1 : Fin 2) e c)
      (by rw [Shape.rowMajor_val_four, Shape.rowMajor_val_two]; simp [hq]),
    concatenate_pair_apply_right (s₁ := ⟨4, ![g, 1, j, 128]⟩) (s₂ := ⟨4, ![g, 1, j, 128]⟩)
      _ _ _ _ (ix4 a (1 : Fin 2) e c) rfl rfl (ix4 a (0 : Fin 1) e c)
      (fun b hb => by fin_cases b <;> simp_all) (by simp),
    shapeCast_apply _ _ _ (ix3 a e c) (by rw [Shape.rowMajor_val_four, Shape.rowMajor_val_three]; simp)]

theorem half6_apply {d m j : ℕ} (h : d * 2 * m * 2 * j = 1024) (p b : ℕ) (hp : p < 2) (hb : b < 2)
    (x : Tile.Idx → α) (a : Fin d) (e : Fin m) (y : Fin j) (c : Fin 128) (q : Fin 1024)
    (hq : q.val = (((a.val * 2 + p) * m + e.val) * 2 + b) * j + y.val) :
    half6 h p b hp hb x (ix4 a e y c) = x (ix2 q c) := by
  unfold half6
  rw [shapeCast_apply _ _ (ix4 a e y c) (ix6 a (0 : Fin 1) e (0 : Fin 1) y c)
      (by rw [Shape.rowMajor_val_four, Shape.rowMajor_val_six]; simp),
    extractStridedSlice_apply _ _ _ (ix6 a (0 : Fin 1) e (0 : Fin 1) y c)
      (ix6 a (⟨p, hp⟩ : Fin 2) e (⟨b, hb⟩ : Fin 2) y c) (fun b => by fin_cases b <;> simp),
    shapeCast_apply _ _ _ (ix2 q c) (by rw [Shape.rowMajor_val_six, Shape.rowMajor_val_two]; simp [hq])]

theorem pair6_apply_zero {d m j : ℕ} (x y : Shape.Idx ⟨4, ![d, m, j, 128]⟩ → α) (a : Fin d) (e : Fin m) (z : Fin j)
    (c : Fin 128) : pair6 x y (ix6 a (0 : Fin 1) e (0 : Fin 2) z c) = x (ix4 a e z c) := by
  unfold pair6
  rw [shapeCast_apply _ _ _ (ix5 a e (0 : Fin 2) z c)
      (by rw [Shape.rowMajor_val_five, Shape.rowMajor_val_six]; simp),
    concatenate_pair_apply_left (s₁ := ⟨5, ![d, m, 1, j, 128]⟩) (s₂ := ⟨5, ![d, m, 1, j, 128]⟩)
      _ _ _ _ (ix5 a e (0 : Fin 2) z c) rfl (ix5 a e (0 : Fin 1) z c)
      (fun b => by fin_cases b <;> simp),
    shapeCast_apply _ _ _ (ix4 a e z c) (by rw [Shape.rowMajor_val_five, Shape.rowMajor_val_four]; simp)]

theorem pair6_apply_one {d m j : ℕ} (x y : Shape.Idx ⟨4, ![d, m, j, 128]⟩ → α) (a : Fin d) (e : Fin m) (z : Fin j)
    (c : Fin 128) : pair6 x y (ix6 a (0 : Fin 1) e (1 : Fin 2) z c) = y (ix4 a e z c) := by
  unfold pair6
  rw [shapeCast_apply _ _ _ (ix5 a e (1 : Fin 2) z c)
      (by rw [Shape.rowMajor_val_five, Shape.rowMajor_val_six]; simp),
    concatenate_pair_apply_right (s₁ := ⟨5, ![d, m, 1, j, 128]⟩) (s₂ := ⟨5, ![d, m, 1, j, 128]⟩)
      _ _ _ _ (ix5 a e (1 : Fin 2) z c) rfl rfl (ix5 a e (0 : Fin 1) z c)
      (fun b hb => by fin_cases b <;> simp_all) (by simp),
    shapeCast_apply _ _ _ (ix4 a e z c) (by rw [Shape.rowMajor_val_five, Shape.rowMajor_val_four]; simp)]

theorem join6_apply_zero {d m j : ℕ} (h : d * 2 * m * 2 * j = 1024) (x y z w : Shape.Idx ⟨4, ![d, m, j, 128]⟩ → α)
    (a : Fin d) (e : Fin m) (b : Fin 2) (u : Fin j) (c : Fin 128) (q : Fin 1024)
    (hq : q.val = (((a.val * 2 + 0) * m + e.val) * 2 + b.val) * j + u.val) :
    join6 h x y z w (ix2 q c) = pair6 x y (ix6 a (0 : Fin 1) e b u c) := by
  unfold join6
  rw [shapeCast_apply _ _ (ix2 q c) (ix6 a (0 : Fin 2) e b u c)
      (by rw [Shape.rowMajor_val_six, Shape.rowMajor_val_two]; simp [hq]),
    concatenate_pair_apply_left (s₁ := ⟨6, ![d, 1, m, 2, j, 128]⟩) (s₂ := ⟨6, ![d, 1, m, 2, j, 128]⟩)
      _ _ _ _ (ix6 a (0 : Fin 2) e b u c) rfl (ix6 a (0 : Fin 1) e b u c)
      (fun b => by fin_cases b <;> simp)]

theorem join6_apply_one {d m j : ℕ} (h : d * 2 * m * 2 * j = 1024) (x y z w : Shape.Idx ⟨4, ![d, m, j, 128]⟩ → α)
    (a : Fin d) (e : Fin m) (b : Fin 2) (u : Fin j) (c : Fin 128) (q : Fin 1024)
    (hq : q.val = (((a.val * 2 + 1) * m + e.val) * 2 + b.val) * j + u.val) :
    join6 h x y z w (ix2 q c) = pair6 z w (ix6 a (0 : Fin 1) e b u c) := by
  unfold join6
  rw [shapeCast_apply _ _ (ix2 q c) (ix6 a (1 : Fin 2) e b u c)
      (by rw [Shape.rowMajor_val_six, Shape.rowMajor_val_two]; simp [hq]),
    concatenate_pair_apply_right (s₁ := ⟨6, ![d, 1, m, 2, j, 128]⟩) (s₂ := ⟨6, ![d, 1, m, 2, j, 128]⟩)
      _ _ _ _ (ix6 a (1 : Fin 2) e b u c) rfl rfl (ix6 a (0 : Fin 1) e b u c)
      (fun b hb => by fin_cases b <;> simp_all) (by simp)]

/-- Shifted up: a row that has a row `j` further on reads it. -/
theorem up3_apply {g k : ℕ} (j r : ℕ) (h : j + r = k) (x : Shape.Idx ⟨3, ![g, k, 128]⟩ → α) (a : Fin g) (y z : Fin k)
    (c : Fin 128) (hz : z.val = y.val + j) : up3 j r h x (ix3 a y c) = x (ix3 a z c) := by
  have hy : y.val < r := by have := z.isLt; omega
  unfold up3
  rw [concatenate_pair_apply_left (s₁ := ⟨3, ![g, r, 128]⟩) (s₂ := ⟨3, ![g, j, 128]⟩)
      _ _ _ _ (ix3 a y c) rfl (ix3 a (⟨y.val, hy⟩ : Fin r) c)
      (fun b => by fin_cases b <;> simp),
    extractStridedSlice_apply _ _ _ (ix3 a (⟨y.val, hy⟩ : Fin r) c) (ix3 a z c)
      (fun b => by
        fin_cases b
        · simp
        · show z.val = j + y.val
          omega
        · simp)]

/-- Shifted down: a row that has a row `j` before it reads it. -/
theorem down3_apply {g k : ℕ} (j r : ℕ) (h : j + r = k) (x : Shape.Idx ⟨3, ![g, k, 128]⟩ → α) (a : Fin g)
    (y z : Fin k) (c : Fin 128) (hz : z.val = y.val + j) : down3 j r h x (ix3 a z c) = x (ix3 a y c) := by
  have hy : y.val < r := by have := z.isLt; omega
  unfold down3
  rw [concatenate_pair_apply_right (s₁ := ⟨3, ![g, j, 128]⟩) (s₂ := ⟨3, ![g, r, 128]⟩)
      _ _ _ _ (ix3 a z c) rfl rfl (ix3 a (⟨y.val, hy⟩ : Fin r) c)
      (fun b hb => by fin_cases b <;> simp_all) (by show y.val + j = z.val; omega),
    extractStridedSlice_apply _ _ _ (ix3 a (⟨y.val, hy⟩ : Fin r) c) (ix3 a y c)
      (fun b => by fin_cases b <;> simp)]

theorem up2_apply (j r : ℕ) (h : j + r = 1024) (x : Tile.Idx → α) (y z : Fin 1024) (c : Fin 128)
    (hz : z.val = y.val + j) : up2 j r h x (ix2 y c) = x (ix2 z c) := by
  have hy : y.val < r := by have := z.isLt; omega
  unfold up2
  rw [concatenate_pair_apply_left (s₁ := ⟨2, ![r, 128]⟩) (s₂ := ⟨2, ![j, 128]⟩)
      _ _ _ _ (ix2 y c) rfl (ix2 (⟨y.val, hy⟩ : Fin r) c)
      (fun b => by fin_cases b <;> simp),
    extractStridedSlice_apply _ _ _ (ix2 (⟨y.val, hy⟩ : Fin r) c) (ix2 z c)
      (fun b => by
        fin_cases b
        · show z.val = j + y.val
          omega
        · simp)]

theorem down2_apply (j r : ℕ) (h : j + r = 1024) (x : Tile.Idx → α) (y z : Fin 1024) (c : Fin 128)
    (hz : z.val = y.val + j) : down2 j r h x (ix2 z c) = x (ix2 y c) := by
  have hy : y.val < r := by have := z.isLt; omega
  unfold down2
  rw [concatenate_pair_apply_right (s₁ := ⟨2, ![j, 128]⟩) (s₂ := ⟨2, ![r, 128]⟩)
      _ _ _ _ (ix2 z c) rfl rfl (ix2 (⟨y.val, hy⟩ : Fin r) c)
      (fun b hb => by fin_cases b <;> simp_all) (by show y.val + j = z.val; omega),
    extractStridedSlice_apply _ _ _ (ix2 (⟨y.val, hy⟩ : Fin r) c) (ix2 y c)
      (fun b => by fin_cases b <;> simp)]

end Cert.Proof.Sort

end
-- ==== Proof.Stages.lean ====
/-
  The stages of the bitonic sorting network as the kernel computes them on a tile of values and a tile of indices, and
  what each does to a column: it is a stage of the abstract network, on entries that are ordered by value and, where the
  values are equal, by the smaller index.
-/
module

public import proofs.«01_k».proof.Proof.Moves
public import Idealize.ShloMosaic.Lib.SortNet.Sorts
public import Idealize.ShloMosaic.Lib.SortNet.HostSort

@[expose] public section

noncomputable section

namespace Cert.Proof.Sort

open Idealize.ShloMosaic Idealize.ShloMosaic.ValueIdx Idealize.ShloMosaic.SortNet

/-! ### Entries and their order -/

/-- A value with its index. The order is by the value, and the smaller index wins among equal values. -/
abbrev Ent : Type := EReal ×ₗ ℤᵒᵈ

/-- The entry of a value and an index. -/
def ent (v : EReal) (i : BitVec 32) : Ent := toLex (v, OrderDual.toDual i.toInt)

theorem ent_lt (v w : EReal) (i k : BitVec 32) : ent v i < ent w k ↔ v < w ∨ v = w ∧ k.toInt < i.toInt := by
  unfold ent
  rw [Prod.Lex.toLex_lt_toLex]
  simp [OrderDual.toDual_lt_toDual]

variable {s : Shape}

/-- The bit that says where the first entry is below the second. -/
def below (a b : FVec Ideal s .f32) (ia ib : IVec s 32) : IVec s 1 :=
  ori (cmpf .olt a b) (andi (cmpf .oeq a b) (cmpi .sgt ia ib))

/-- The bit that says where the first entry is above the second. -/
def above (a b : FVec Ideal s .f32) (ia ib : IVec s 32) : IVec s 1 :=
  ori (cmpf .ogt a b) (andi (cmpf .oeq a b) (cmpi .slt ia ib))

theorem bit_or_and (p q r : Bool) :
    BitVec.ofBool p ||| (BitVec.ofBool q &&& BitVec.ofBool r) = BitVec.ofBool (p || (q && r)) := by
  cases p <;> cases q <;> cases r <;> rfl

theorem below_apply (a b : FVec Ideal s .f32) (ia ib : IVec s 32) (i : s.Idx) :
    below a b ia ib i = BitVec.ofBool (decide (ent (a i) (ia i) < ent (b i) (ib i))) := by
  show BitVec.ofBool (decide (a i < b i))
      ||| (BitVec.ofBool (decide (a i = b i)) &&& BitVec.ofBool ((ib i).slt (ia i))) = _
  rw [bit_or_and]
  congr 1
  rw [Bool.eq_iff_iff]
  simp [ent_lt, BitVec.slt]

theorem above_apply (a b : FVec Ideal s .f32) (ia ib : IVec s 32) (i : s.Idx) :
    above a b ia ib i = BitVec.ofBool (decide (ent (b i) (ib i) < ent (a i) (ia i))) := by
  show BitVec.ofBool (decide (b i < a i))
      ||| (BitVec.ofBool (decide (a i = b i)) &&& BitVec.ofBool ((ia i).slt (ib i))) = _
  rw [bit_or_and]
  congr 1
  rw [Bool.eq_iff_iff]
  simp only [ent_lt, BitVec.slt, Bool.or_eq_true, Bool.and_eq_true, decide_eq_true_eq, eq_comm (a := b i)]

theorem select_ofBool {β : Type} (p : Bool) (a b : β) :
    Scalar.select (BitVec.ofBool p) a b = if p then a else b := by
  cases p <;> rfl

/-- The greater values with the greater entries' indices are the greater entries. -/
theorem ent_hi (a b : FVec Ideal s .f32) (ia ib : IVec s 32) (i : s.Idx) :
    ent (maximumf a b i) (select (below a b ia ib) ib ia i) = max (ent (a i) (ia i)) (ent (b i) (ib i)) := by
  show ent (max (a i) (b i)) (Scalar.select (below a b ia ib i) (ib i) (ia i)) = _
  rw [below_apply, select_ofBool]
  by_cases h : ent (a i) (ia i) < ent (b i) (ib i)
  · rw [max_eq_right h.le]
    have h' : a i ≤ b i := by rcases (ent_lt _ _ _ _).mp h with h' | h'; exacts [le_of_lt h', le_of_eq h'.1]
    simp [h, h']
  · rw [max_eq_left (not_lt.mp h)]
    have h' : b i ≤ a i := not_lt.mp fun hl => h ((ent_lt _ _ _ _).mpr (Or.inl hl))
    simp [h, h']

theorem ent_lo (a b : FVec Ideal s .f32) (ia ib : IVec s 32) (i : s.Idx) :
    ent (minimumf a b i) (select (below a b ia ib) ia ib i) = min (ent (a i) (ia i)) (ent (b i) (ib i)) := by
  show ent (min (a i) (b i)) (Scalar.select (below a b ia ib i) (ia i) (ib i)) = _
  rw [below_apply, select_ofBool]
  by_cases h : ent (a i) (ia i) < ent (b i) (ib i)
  · rw [min_eq_left h.le]
    have h' : a i ≤ b i := by rcases (ent_lt _ _ _ _).mp h with h' | h'; exacts [le_of_lt h', le_of_eq h'.1]
    simp [h, h']
  · rw [min_eq_right (not_lt.mp h)]
    have h' : b i ≤ a i := not_lt.mp fun hl => h ((ent_lt _ _ _ _).mpr (Or.inl hl))
    simp [h, h']

/-- The bit that says where the partner's entry is taken: where `keep` is set the greater entry is kept, elsewhere the
    lesser one. -/
def takes (keep : IVec s 1) (p v : FVec Ideal s .f32) (pi iv : IVec s 32) : IVec s 1 :=
  ori (andi keep (above p v pi iv)) (andi (xori keep (constantI s 1 1#1)) (below p v pi iv))

/-- The same where `keep` is set for the lesser entry. -/
def takesAsc (keep : IVec s 1) (p v : FVec Ideal s .f32) (pi iv : IVec s 32) : IVec s 1 :=
  ori (andi keep (below p v pi iv)) (andi (xori keep (constantI s 1 1#1)) (above p v pi iv))

theorem ent_select (p v : FVec Ideal s .f32) (pi iv : IVec s 32) (t : IVec s 1) (i : s.Idx) (b : Bool)
    (h : t i = BitVec.ofBool b) :
    ent (select t p v i) (select t pi iv i) = if b then ent (p i) (pi i) else ent (v i) (iv i) := by
  show ent (Scalar.select (t i) (p i) (v i)) (Scalar.select (t i) (pi i) (iv i)) = _
  rw [h, select_ofBool, select_ofBool]
  cases b <;> rfl

theorem bit_takes (k x y : Bool) :
    (BitVec.ofBool k &&& BitVec.ofBool x) ||| ((BitVec.ofBool k ^^^ 1#1) &&& BitVec.ofBool y)
      = BitVec.ofBool (if k then x else y) := by
  cases k <;> cases x <;> cases y <;> rfl

theorem ent_takes (keep : IVec s 1) (p v : FVec Ideal s .f32) (pi iv : IVec s 32) (i : s.Idx) (k : Bool)
    (hk : keep i = BitVec.ofBool k) :
    ent (select (takes keep p v pi iv) p v i) (select (takes keep p v pi iv) pi iv i)
      = if k then max (ent (v i) (iv i)) (ent (p i) (pi i)) else min (ent (v i) (iv i)) (ent (p i) (pi i)) := by
  have h : takes keep p v pi iv i = BitVec.ofBool (if k then decide (ent (v i) (iv i) < ent (p i) (pi i))
      else decide (ent (p i) (pi i) < ent (v i) (iv i))) := by
    show (keep i &&& above p v pi iv i) ||| ((keep i ^^^ 1#1) &&& below p v pi iv i) = _
    rw [hk, above_apply, below_apply, bit_takes]
  rw [ent_select _ _ _ _ _ _ _ h]
  cases k
  · by_cases hl : ent (p i) (pi i) < ent (v i) (iv i)
    · simp [hl, min_eq_right hl.le]
    · simp [hl, min_eq_left (not_lt.mp hl)]
  · by_cases hl : ent (v i) (iv i) < ent (p i) (pi i)
    · simp [hl, max_eq_right hl.le]
    · simp [hl, max_eq_left (not_lt.mp hl)]

theorem ent_takesAsc (keep : IVec s 1) (p v : FVec Ideal s .f32) (pi iv : IVec s 32) (i : s.Idx) (k : Bool)
    (hk : keep i = BitVec.ofBool k) :
    ent (select (takesAsc keep p v pi iv) p v i) (select (takesAsc keep p v pi iv) pi iv i)
      = if k then min (ent (v i) (iv i)) (ent (p i) (pi i)) else max (ent (v i) (iv i)) (ent (p i) (pi i)) := by
  have h : takesAsc keep p v pi iv i = BitVec.ofBool (if k then decide (ent (p i) (pi i) < ent (v i) (iv i))
      else decide (ent (v i) (iv i) < ent (p i) (pi i))) := by
    show (keep i &&& below p v pi iv i) ||| ((keep i ^^^ 1#1) &&& above p v pi iv i) = _
    rw [hk, above_apply, below_apply, bit_takes]
  rw [ent_select _ _ _ _ _ _ _ h]
  cases k
  · by_cases hl : ent (v i) (iv i) < ent (p i) (pi i)
    · simp [hl, max_eq_right hl.le]
    · simp [hl, max_eq_left (not_lt.mp hl)]
  · by_cases hl : ent (p i) (pi i) < ent (v i) (iv i)
    · simp [hl, min_eq_right hl.le]
    · simp [hl, min_eq_left (not_lt.mp hl)]

/-! ### A stage of the network, seen at a pair of rows -/

/-- A tile of values with a tile of indices. -/
abbrev St : Type := FVec Ideal Tile .f32 × IVec Tile 32

/-- The entries of column `c`. -/
def col (x : St) (c : Fin 128) : Fin (2 ^ 10) → Ent :=
  fun q => ent (x.1 (ix2 (n0 := 1024) q c)) (x.2 (ix2 (n0 := 1024) q c))

theorem and_two_pow_iff (q t : ℕ) : q &&& 2 ^ t = 0 ↔ q / 2 ^ t % 2 = 0 := by
  rw [and_two_pow_eq_zero_iff_testBit, Nat.testBit_eq_decide_div_mod_eq]
  simp

/-- A row with bit `t` clear has its partner `2 ^ t` further on. -/
theorem partner_val_of_clear {t : ℕ} (ht : t < 10) (q : Fin (2 ^ 10)) (hq : q.val &&& 2 ^ t = 0) :
    (partner 10 t q).val = q.val + 2 ^ t := by
  rw [partner_val ht]
  have h : ∀ t : Fin 10, ∀ q : Fin 1024, q.val &&& 2 ^ t.val = 0 → q.val ^^^ 2 ^ t.val = q.val + 2 ^ t.val := by
    decide +kernel
  exact h ⟨t, ht⟩ q hq

/-- Two columns that agree with a stage at every pair of rows are that stage's. -/
theorem col_eq_stage {t : ℕ} (ht : t < 10) (w : Fin (2 ^ 10) → Bool) (v v' : Fin (2 ^ 10) → Ent)
    (h : ∀ lo hi : Fin (2 ^ 10), lo.val / 2 ^ t % 2 = 0 → hi.val = lo.val + 2 ^ t →
      v' lo = (if w lo then max (v lo) (v hi) else min (v lo) (v hi))
        ∧ v' hi = (if w lo then min (v lo) (v hi) else max (v lo) (v hi))) :
    v' = Network.apply (stage 10 t w) v := by
  funext q
  by_cases hq : q.val &&& 2 ^ t = 0
  · rw [(apply_stage ht w v q hq).1]
    exact (h q _ ((and_two_pow_iff _ _).mp hq) (partner_val_of_clear ht q hq)).1
  · have hp := partner_and_of_set ht q hq
    have h2 := (apply_stage ht w v _ hp).2
    have h3 := (h _ _ ((and_two_pow_iff _ _).mp hp) (partner_val_of_clear ht _ hp)).2
    rw [partner_partner ht q] at h2 h3
    rw [h2, h3]

end Cert.Proof.Sort

end

end
-- ==== Proof.Forms.lean ====
/-
  The three ways in which the kernel computes a stage of the network, and the lemma for each: what it leaves in a column
  is what the stage of the abstract network leaves there.
-/
module

public import proofs.«01_k».proof.Proof.Stages

@[expose] public section

noncomputable section

namespace Cert.Proof.Sort

open Idealize.ShloMosaic Idealize.ShloMosaic.ValueIdx Idealize.ShloMosaic.SortNet

/-! ### The stages -/

/-- Every group is sorted downwards, at a distance of half the group: the greater entry goes to the first half. -/
def stageFull {g j : ℕ} (h : g * 2 * j = 1024) (x : St) : St :=
  let a := half4 h 0 (by decide) x.1
  let b := half4 h 1 (by decide) x.1
  let ia := half4 h 0 (by decide) x.2
  let ib := half4 h 1 (by decide) x.2
  (join4 h (maximumf a b) (minimumf a b),
    join4 h (select (below a b ia ib) ib ia) (select (below a b ia ib) ia ib))

/-- The groups in the first half of every greater group are sorted downwards, those in the second half upwards. -/
def stageBoth {d m j : ℕ} (h : d * 2 * m * 2 * j = 1024) (x : St) : St :=
  let a := half6 h 0 0 (by decide) (by decide) x.1
  let b := half6 h 0 1 (by decide) (by decide) x.1
  let ia := half6 h 0 0 (by decide) (by decide) x.2
  let ib := half6 h 0 1 (by decide) (by decide) x.2
  let a' := half6 h 1 1 (by decide) (by decide) x.1
  let b' := half6 h 1 0 (by decide) (by decide) x.1
  let ia' := half6 h 1 1 (by decide) (by decide) x.2
  let ib' := half6 h 1 0 (by decide) (by decide) x.2
  (join6 h (maximumf a b) (minimumf a b) (minimumf a' b') (maximumf a' b'),
    join6 h (select (below a b ia ib) ib ia) (select (below a b ia ib) ia ib)
      (select (below a' b' ia' ib') ia' ib') (select (below a' b' ia' ib') ib' ia'))

/-- Every row is compared with its partner, brought to it by a shift: up where `low` is set, down elsewhere. Where `keep`
    is set the greater entry is kept. -/
def stageRoll (j r : ℕ) (h : j + r = 1024) (low keep : IVec Tile 1) (x : St) : St :=
  let p := select low (up2 j r h x.1) (down2 j r h x.1)
  let ip := select low (up2 j r h x.2) (down2 j r h x.2)
  (select (takes keep p x.1 ip x.2) p x.1, select (takes keep p x.1 ip x.2) ip x.2)

/-- The same inside the first and the second half of every group: the first sorted downwards, the second upwards. -/
def stageHalves {g k : ℕ} (h : g * 2 * k = 1024) (j r : ℕ) (hj : j + r = k) (low : IVec Tile 1) (x : St) : St :=
  let l := half4 h 0 (by decide) low
  let a := half4 h 0 (by decide) x.1
  let ia := half4 h 0 (by decide) x.2
  let b := half4 h 1 (by decide) x.1
  let ib := half4 h 1 (by decide) x.2
  let p := select l (up3 j r hj a) (down3 j r hj a)
  let ip := select l (up3 j r hj ia) (down3 j r hj ia)
  let q := select l (up3 j r hj b) (down3 j r hj b)
  let iq := select l (up3 j r hj ib) (down3 j r hj ib)
  (join4 h (select (takes l p a ip ia) p a) (select (takesAsc l q b iq ib) q b),
    join4 h (select (takes l p a ip ia) ip ia) (select (takesAsc l q b iq ib) iq ib))

/-- The bit that says which rows have a bit clear in their number. -/
def clear (io : IVec Tile 32) (k : BitVec 32) : IVec Tile 1 :=
  cmpi .eq (andi io (broadcast Tile k)) (broadcast Tile 0#32)

/-! ### Where the greater entry of a pair goes -/

/-- The greater entry goes to the earlier row in the groups of `k` rows with an even number. -/
def win (k : ℕ) (q : Fin (2 ^ 10)) : Bool := decide (q.val / k % 2 = 0)

theorem win_full (q : Fin (2 ^ 10)) : win 1024 q = true := by
  have h : q.val / 1024 = 0 := Nat.div_eq_of_lt q.isLt
  simp [win, h]

theorem clear_apply (io : IVec Tile 32) (hio : ∀ (q : Fin 1024) (c : Fin 128), io (ix2 q c) = BitVec.ofNat 32 q.val)
    (t : ℕ) (ht : t < 10) (q : Fin 1024) (c : Fin 128) :
    clear io (BitVec.ofNat 32 (2 ^ t)) (ix2 q c) = BitVec.ofBool (win (2 ^ t) q) := by
  have h : ∀ t : Fin 10, ∀ q : Fin 1024,
      (BitVec.ofNat 32 q.val &&& BitVec.ofNat 32 (2 ^ t.val) == 0#32) = decide (q.val / 2 ^ t.val % 2 = 0) := by
    decide +kernel
  show BitVec.ofBool ((io (ix2 q c) &&& BitVec.ofNat 32 (2 ^ t)) == 0#32) = _
  rw [hio, h ⟨t, ht⟩ q]
  rfl

/-! ### Arithmetic of the rows -/

theorem row_split {q j : ℕ} (h : q / j % 2 = 0) : q = (q / (j * 2) * 2 + 0) * j + q % j := by
  have h1 := Nat.div_add_mod q j
  have h2 := Nat.div_add_mod (q / j) 2
  rw [← Nat.div_div_eq_div_mul]
  rw [h, Nat.add_zero] at h2
  rw [Nat.add_zero, mul_comm (q / j / 2) 2, h2, mul_comm (q / j) j, h1]

theorem row_group {q g j : ℕ} (h : g * 2 * j = 1024) (hq : q < 1024) : q / (j * 2) < g :=
  Nat.div_lt_of_lt_mul (by rw [show j * 2 * g = g * 2 * j by ring, h]; exact hq)

theorem row_partner {y j u : ℕ} (hy : y < j * (2 * u)) (h : y / j % 2 = 0) (hj : 0 < j) : y + j < j * (2 * u) := by
  have h1 : y / j < 2 * u := Nat.div_lt_of_lt_mul hy
  have h2 : y / j + 2 ≤ 2 * u := by omega
  have h3 := Nat.div_add_mod y j
  have h4 := Nat.mod_lt y hj
  calc y + j < j * (y / j) + j + j := by omega
    _ = j * (y / j + 2) := by ring
    _ ≤ j * (2 * u) := Nat.mul_le_mul_left j h2

theorem row_bit {a y j u : ℕ} (hj : 0 < j) : (a * (j * (2 * u)) + y) / j % 2 = y / j % 2 := by
  rw [show a * (j * (2 * u)) + y = y + j * (2 * (a * u)) by ring, Nat.add_mul_div_left _ _ hj, Nat.add_mul_mod_self_left]

/-! ### What the stages do to a column -/

theorem col_stageFull {g j t : ℕ} (ht : t < 10) (hj : j = 2 ^ t) (h : g * 2 * j = 1024) (x : St) (c : Fin 128) :
    col (stageFull h x) c = Network.apply (stage 10 t (win 1024)) (col x c) := by
  apply col_eq_stage ht
  intro lo hi hlo hhi
  subst hj
  have hj0 : 0 < 2 ^ t := Nat.two_pow_pos t
  have hl := row_split hlo
  let a : Fin g := ⟨lo.val / (2 ^ t * 2), row_group h lo.isLt⟩
  let y : Fin (2 ^ t) := ⟨lo.val % 2 ^ t, Nat.mod_lt _ hj0⟩
  have hlo' : lo.val = (a.val * 2 + 0) * 2 ^ t + y.val := hl
  have hhi' : hi.val = (a.val * 2 + 1) * 2 ^ t + y.val := by rw [hhi, hlo']; ring
  rw [win_full]
  constructor
  · show ent (join4 h _ _ (ix2 (n0 := 1024) lo c)) (join4 h _ _ (ix2 (n0 := 1024) lo c)) = _
    rw [join4_apply_zero h _ _ a y c lo hlo', join4_apply_zero h _ _ a y c lo hlo', ent_hi,
      half4_apply h 0 _ x.1 a y c lo hlo', half4_apply h 1 _ x.1 a y c hi hhi',
      half4_apply h 0 _ x.2 a y c lo hlo', half4_apply h 1 _ x.2 a y c hi hhi']
    rfl
  · show ent (join4 h _ _ (ix2 (n0 := 1024) hi c)) (join4 h _ _ (ix2 (n0 := 1024) hi c)) = _
    rw [join4_apply_one h _ _ a y c hi hhi', join4_apply_one h _ _ a y c hi hhi', ent_lo,
      half4_apply h 0 _ x.1 a y c lo hlo', half4_apply h 1 _ x.1 a y c hi hhi',
      half4_apply h 0 _ x.2 a y c lo hlo', half4_apply h 1 _ x.2 a y c hi hhi']
    rfl

theorem col_stageBoth {d m j k t : ℕ} (ht : t < 10) (hj : j = 2 ^ t) (hk : k = j * 2 * m)
    (h : d * 2 * m * 2 * j = 1024) (x : St) (c : Fin 128) :
    col (stageBoth h x) c = Network.apply (stage 10 t (win k)) (col x c) := by
  apply col_eq_stage ht
  intro lo hi hlo hhi
  subst hj
  have hj0 : 0 < 2 ^ t := Nat.two_pow_pos t
  have hm0 : 0 < m := Nat.pos_of_ne_zero fun e => by rw [e] at h; simp at h
  have hl := row_split hlo
  -- the group's number is (a * 2 + p) * m + e
  have hX : lo.val / (2 ^ t * 2) = (lo.val / (2 ^ t * 2) / m) * m + lo.val / (2 ^ t * 2) % m := by
    have := Nat.div_add_mod (lo.val / (2 ^ t * 2)) m
    rw [mul_comm] at this
    exact this.symm
  have hw : win k lo = decide (lo.val / (2 ^ t * 2) / m % 2 = 0) := by
    rw [win, hk, Nat.div_div_eq_div_mul]
  have hP := Nat.div_add_mod (lo.val / (2 ^ t * 2) / m) 2
  have hd : lo.val / (2 ^ t * 2) / m / 2 < d := by
    rw [Nat.div_div_eq_div_mul, Nat.div_div_eq_div_mul]
    exact Nat.div_lt_of_lt_mul
      (by rw [show 2 ^ t * 2 * (m * 2) * d = d * 2 * m * 2 * 2 ^ t by ring, h]; exact lo.isLt)
  let a : Fin d := ⟨lo.val / (2 ^ t * 2) / m / 2, hd⟩
  let e : Fin m := ⟨lo.val / (2 ^ t * 2) % m, Nat.mod_lt _ hm0⟩
  let y : Fin (2 ^ t) := ⟨lo.val % 2 ^ t, Nat.mod_lt _ hj0⟩
  rw [hw]
  rcases Nat.mod_two_eq_zero_or_one (lo.val / (2 ^ t * 2) / m) with hp | hp
  · have hlo' : lo.val = (((a.val * 2 + 0) * m + e.val) * 2 + (0 : Fin 2).val) * 2 ^ t + y.val := by
      show lo.val = (((lo.val / (2 ^ t * 2) / m / 2 * 2 + 0) * m + lo.val / (2 ^ t * 2) % m) * 2 + 0) * 2 ^ t
        + lo.val % 2 ^ t
      rw [show lo.val / (2 ^ t * 2) / m / 2 * 2 + 0 = lo.val / (2 ^ t * 2) / m by omega, ← hX]
      exact hl
    have hhi' : hi.val = (((a.val * 2 + 0) * m + e.val) * 2 + (1 : Fin 2).val) * 2 ^ t + y.val := by
      rw [hhi, hlo']; simp only [Fin.val_zero, Fin.val_one]; ring
    simp only [hp, decide_true, if_true]
    constructor
    · show ent (join6 h _ _ _ _ (ix2 (n0 := 1024) lo c)) (join6 h _ _ _ _ (ix2 (n0 := 1024) lo c)) = _
      rw [join6_apply_zero h _ _ _ _ a e 0 y c lo hlo', join6_apply_zero h _ _ _ _ a e 0 y c lo hlo',
        pair6_apply_zero, pair6_apply_zero, ent_hi,
        half6_apply h 0 0 _ _ x.1 a e y c lo hlo', half6_apply h 0 1 _ _ x.1 a e y c hi hhi',
        half6_apply h 0 0 _ _ x.2 a e y c lo hlo', half6_apply h 0 1 _ _ x.2 a e y c hi hhi']
      rfl
    · show ent (join6 h _ _ _ _ (ix2 (n0 := 1024) hi c)) (join6 h _ _ _ _ (ix2 (n0 := 1024) hi c)) = _
      rw [join6_apply_zero h _ _ _ _ a e 1 y c hi hhi', join6_apply_zero h _ _ _ _ a e 1 y c hi hhi',
        pair6_apply_one, pair6_apply_one, ent_lo,
        half6_apply h 0 0 _ _ x.1 a e y c lo hlo', half6_apply h 0 1 _ _ x.1 a e y c hi hhi',
        half6_apply h 0 0 _ _ x.2 a e y c lo hlo', half6_apply h 0 1 _ _ x.2 a e y c hi hhi']
      rfl
  · have hlo' : lo.val = (((a.val * 2 + 1) * m + e.val) * 2 + (0 : Fin 2).val) * 2 ^ t + y.val := by
      show lo.val = (((lo.val / (2 ^ t * 2) / m / 2 * 2 + 1) * m + lo.val / (2 ^ t * 2) % m) * 2 + 0) * 2 ^ t
        + lo.val % 2 ^ t
      rw [show lo.val / (2 ^ t * 2) / m / 2 * 2 + 1 = lo.val / (2 ^ t * 2) / m by omega, ← hX]
      exact hl
    have hhi' : hi.val = (((a.val * 2 + 1) * m + e.val) * 2 + (1 : Fin 2).val) * 2 ^ t + y.val := by
      rw [hhi, hlo']; simp only [Fin.val_zero, Fin.val_one]; ring
    simp only [hp, one_ne_zero, decide_false, Bool.false_eq_true, if_false]
    constructor
    · show ent (join6 h _ _ _ _ (ix2 (n0 := 1024) lo c)) (join6 h _ _ _ _ (ix2 (n0 := 1024) lo c)) = _
      rw [join6_apply_one h _ _ _ _ a e 0 y c lo hlo', join6_apply_one h _ _ _ _ a e 0 y c lo hlo',
        pair6_apply_zero, pair6_apply_zero, ent_lo,
        half6_apply h 1 0 _ _ x.1 a e y c lo hlo', half6_apply h 1 1 _ _ x.1 a e y c hi hhi',
        half6_apply h 1 0 _ _ x.2 a e y c lo hlo', half6_apply h 1 1 _ _ x.2 a e y c hi hhi', min_comm]
      rfl
    · show ent (join6 h _ _ _ _ (ix2 (n0 := 1024) hi c)) (join6 h _ _ _ _ (ix2 (n0 := 1024) hi c)) = _
      rw [join6_apply_one h _ _ _ _ a e 1 y c hi hhi', join6_apply_one h _ _ _ _ a e 1 y c hi hhi',
        pair6_apply_one, pair6_apply_one, ent_hi,
        half6_apply h 1 0 _ _ x.1 a e y c lo hlo', half6_apply h 1 1 _ _ x.1 a e y c hi hhi',
        half6_apply h 1 0 _ _ x.2 a e y c lo hlo', half6_apply h 1 1 _ _ x.2 a e y c hi hhi', max_comm]
      rfl

/-- The partner's entry where the bit for the shift is set, and where it is clear. -/
theorem select_one {s : Shape} {β : Type} (l : IVec s 1) (u w : s.Idx → β) (i : s.Idx)
    (h : l i = BitVec.ofBool true) : select l u w i = u i := by
  show Scalar.select (l i) (u i) (w i) = _
  rw [h]; rfl

theorem select_zero {s : Shape} {β : Type} (l : IVec s 1) (u w : s.Idx → β) (i : s.Idx)
    (h : l i = BitVec.ofBool false) : select l u w i = w i := by
  show Scalar.select (l i) (u i) (w i) = _
  rw [h]; rfl

theorem col_stageRoll {j r k t : ℕ} (ht : t < 10) (hj : j = 2 ^ t) (h : j + r = 1024) (low keep : IVec Tile 1)
    (hlow : ∀ (q : Fin 1024) (c : Fin 128), low (ix2 q c) = BitVec.ofBool (win j q))
    (hkeep : ∀ (q : Fin 1024) (c : Fin 128), keep (ix2 q c) = BitVec.ofBool (win j q == win k q))
    (hk : ∀ lo hi : Fin (2 ^ 10), lo.val / j % 2 = 0 → hi.val = lo.val + j → win k hi = win k lo)
    (x : St) (c : Fin 128) :
    col (stageRoll j r h low keep x) c = Network.apply (stage 10 t (win k)) (col x c) := by
  apply col_eq_stage ht
  intro lo hi hlo hhi
  subst hj
  have hj0 : 0 < 2 ^ t := Nat.two_pow_pos t
  have wlo : win (2 ^ t) lo = true := by simp [win, hlo]
  have whi : win (2 ^ t) hi = false := by
    have e : hi.val / 2 ^ t = lo.val / 2 ^ t + 1 := by rw [hhi, Nat.add_div_right _ hj0]
    simp only [win, e, decide_eq_false_iff_not]
    omega
  have klo : keep (ix2 (n0 := 1024) lo c) = BitVec.ofBool (win k lo) := by rw [hkeep, wlo]; simp
  have khi : keep (ix2 (n0 := 1024) hi c) = BitVec.ofBool (!win k lo) := by
    rw [hkeep, whi, hk lo hi hlo hhi]; simp
  constructor
  · show ent (select _ _ _ (ix2 (n0 := 1024) lo c)) (select _ _ _ (ix2 (n0 := 1024) lo c)) = _
    rw [ent_takes _ _ _ _ _ _ _ klo, select_one _ _ _ _ (by rw [hlow, wlo]), select_one _ _ _ _ (by rw [hlow, wlo]),
      up2_apply _ r h x.1 lo hi c hhi, up2_apply _ r h x.2 lo hi c hhi]
    rfl
  · show ent (select _ _ _ (ix2 (n0 := 1024) hi c)) (select _ _ _ (ix2 (n0 := 1024) hi c)) = _
    rw [ent_takes _ _ _ _ _ _ _ khi, select_zero _ _ _ _ (by rw [hlow, whi]), select_zero _ _ _ _ (by rw [hlow, whi]),
      down2_apply _ r h x.1 lo hi c hhi, down2_apply _ r h x.2 lo hi c hhi, max_comm, min_comm]
    cases win k lo <;> rfl

theorem col_stageHalves {g k j r t u : ℕ} (ht : t < 10) (hj : j = 2 ^ t) (hu : k = j * (2 * u))
    (h : g * 2 * k = 1024) (hr : j + r = k) (low : IVec Tile 1)
    (hlow : ∀ (q : Fin 1024) (c : Fin 128), low (ix2 q c) = BitVec.ofBool (win j q))
    (x : St) (c : Fin 128) :
    col (stageHalves h j r hr low x) c = Network.apply (stage 10 t (win k)) (col x c) := by
  apply col_eq_stage ht
  intro lo hi hlo hhi
  subst hj
  have hj0 : 0 < 2 ^ t := Nat.two_pow_pos t
  have hk0 : 0 < k := Nat.pos_of_ne_zero fun e => by rw [e] at h; simp at h
  have hq := Nat.div_add_mod lo.val k
  have hp2 := Nat.div_add_mod (lo.val / k) 2
  have hbit : lo.val % k / 2 ^ t % 2 = 0 := by
    have e : (lo.val / k * (2 ^ t * (2 * u)) + lo.val % k) / 2 ^ t % 2 = lo.val % k / 2 ^ t % 2 := row_bit hj0
    rw [← hu, mul_comm, hq] at e
    rw [← e]; exact hlo
  have hy2 : lo.val % k + 2 ^ t < k := by
    have hy := Nat.mod_lt lo.val hk0
    generalize lo.val % k = y at hy hbit ⊢
    rw [hu] at hy ⊢
    exact row_partner hy hbit hj0
  have hg : lo.val / k / 2 < g := by
    rw [Nat.div_div_eq_div_mul]; exact row_group h lo.isLt
  let a : Fin g := ⟨lo.val / k / 2, hg⟩
  let y : Fin k := ⟨lo.val % k, Nat.mod_lt _ hk0⟩
  let z : Fin k := ⟨lo.val % k + 2 ^ t, hy2⟩
  -- the bit for the shift, at the rows of the first half of the group
  have hm : ∀ w : Fin k, (a.val * 2 + 0) * k + w.val < 1024 := fun w => by
    have h1 : a.val + 1 ≤ g := a.isLt
    have h2 : (a.val + 1) * (2 * k) ≤ g * (2 * k) := Nat.mul_le_mul_right _ h1
    have h3 : g * (2 * k) = 1024 := by rw [← h]; ring
    have h4 : (a.val + 1) * (2 * k) = (a.val * 2 + 0) * k + (k + k) := by ring
    have := w.isLt
    omega
  have hl : ∀ w : Fin k, half4 h 0 (by decide) low (ix3 a w c) = BitVec.ofBool (decide (w.val / 2 ^ t % 2 = 0)) := fun w => by
    rw [half4_apply h 0 _ low a w c ⟨_, hm w⟩ rfl, hlow, win]
    have e : ((a.val * 2 + 0) * k + w.val) / 2 ^ t % 2 = w.val / 2 ^ t % 2 := by
      generalize w.val = v
      generalize a.val * 2 + 0 = n
      rw [hu]
      exact row_bit hj0
    show BitVec.ofBool (decide (((a.val * 2 + 0) * k + w.val) / 2 ^ t % 2 = 0)) = _
    rw [e]
  have ly : half4 h 0 (by decide) low (ix3 a y c) = BitVec.ofBool true := by rw [hl y]; simp [y, hbit]
  have lz : half4 h 0 (by decide) low (ix3 a z c) = BitVec.ofBool false := by
    rw [hl z]
    have e : z.val / 2 ^ t = lo.val % k / 2 ^ t + 1 := Nat.add_div_right _ hj0
    rw [e]
    congr 1
    simp only [decide_eq_false_iff_not]
    omega
  have hw : win k lo = decide (lo.val / k % 2 = 0) := rfl
  rw [hw]
  rcases Nat.mod_two_eq_zero_or_one (lo.val / k) with hp | hp
  · have hlo' : lo.val = (a.val * 2 + 0) * k + y.val := by
      show lo.val = (lo.val / k / 2 * 2 + 0) * k + lo.val % k
      rw [show lo.val / k / 2 * 2 + 0 = lo.val / k by omega, mul_comm, hq]
    have hhi' : hi.val = (a.val * 2 + 0) * k + z.val := by
      rw [hhi]; show lo.val + 2 ^ t = _ + (y.val + 2 ^ t); omega
    simp only [hp, decide_true, if_true]
    constructor
    · show ent (join4 h _ _ (ix2 (n0 := 1024) lo c)) (join4 h _ _ (ix2 (n0 := 1024) lo c)) = _
      rw [join4_apply_zero h _ _ a y c lo hlo', join4_apply_zero h _ _ a y c lo hlo', ent_takes _ _ _ _ _ _ _ ly,
        select_one _ _ _ _ ly, select_one _ _ _ _ ly, up3_apply _ r hr _ a y z c rfl, up3_apply _ r hr _ a y z c rfl,
        half4_apply h 0 _ x.1 a y c lo hlo', half4_apply h 0 _ x.1 a z c hi hhi',
        half4_apply h 0 _ x.2 a y c lo hlo', half4_apply h 0 _ x.2 a z c hi hhi']
      rfl
    · show ent (join4 h _ _ (ix2 (n0 := 1024) hi c)) (join4 h _ _ (ix2 (n0 := 1024) hi c)) = _
      rw [join4_apply_zero h _ _ a z c hi hhi', join4_apply_zero h _ _ a z c hi hhi', ent_takes _ _ _ _ _ _ _ lz,
        select_zero _ _ _ _ lz, select_zero _ _ _ _ lz, down3_apply _ r hr _ a y z c rfl,
        down3_apply _ r hr _ a y z c rfl,
        half4_apply h 0 _ x.1 a y c lo hlo', half4_apply h 0 _ x.1 a z c hi hhi',
        half4_apply h 0 _ x.2 a y c lo hlo', half4_apply h 0 _ x.2 a z c hi hhi', min_comm]
      rfl
  · have hlo' : lo.val = (a.val * 2 + 1) * k + y.val := by
      show lo.val = (lo.val / k / 2 * 2 + 1) * k + lo.val % k
      rw [show lo.val / k / 2 * 2 + 1 = lo.val / k by omega, mul_comm, hq]
    have hhi' : hi.val = (a.val * 2 + 1) * k + z.val := by
      rw [hhi]; show lo.val + 2 ^ t = _ + (y.val + 2 ^ t); omega
    simp only [hp, one_ne_zero, decide_false, Bool.false_eq_true, if_false]
    constructor
    · show ent (join4 h _ _ (ix2 (n0 := 1024) lo c)) (join4 h _ _ (ix2 (n0 := 1024) lo c)) = _
      rw [join4_apply_one h _ _ a y c lo hlo', join4_apply_one h _ _ a y c lo hlo', ent_takesAsc _ _ _ _ _ _ _ ly,
        select_one _ _ _ _ ly, select_one _ _ _ _ ly, up3_apply _ r hr _ a y z c rfl, up3_apply _ r hr _ a y z c rfl,
        half4_apply h 1 _ x.1 a y c lo hlo', half4_apply h 1 _ x.1 a z c hi hhi',
        half4_apply h 1 _ x.2 a y c lo hlo', half4_apply h 1 _ x.2 a z c hi hhi']
      rfl
    · show ent (join4 h _ _ (ix2 (n0 := 1024) hi c)) (join4 h _ _ (ix2 (n0 := 1024) hi c)) = _
      rw [join4_apply_one h _ _ a z c hi hhi', join4_apply_one h _ _ a z c hi hhi', ent_takesAsc _ _ _ _ _ _ _ lz,
        select_zero _ _ _ _ lz, select_zero _ _ _ _ lz, down3_apply _ r hr _ a y z c rfl,
        down3_apply _ r hr _ a y z c rfl,
        half4_apply h 1 _ x.1 a y c lo hlo', half4_apply h 1 _ x.1 a z c hi hhi',
        half4_apply h 1 _ x.2 a y c lo hlo', half4_apply h 1 _ x.2 a z c hi hhi', max_comm]
      rfl

end Cert.Proof.Sort

end

end
-- ==== Proof.Chain.lean ====
/-
  The whole sorting network as the kernel lays it out: fifty-five stages, each with the proof that it is a stage of the
  abstract bitonic network, and the column that they leave.
-/
module

public import proofs.«01_k».proof.Proof.Forms

@[expose] public section

noncomputable section

namespace Cert.Proof.Sort

open Idealize.ShloMosaic Idealize.ShloMosaic.ValueIdx Idealize.ShloMosaic.SortNet

/-- The tile of row numbers. -/
def rows : IVec Tile 32 := iota .tc Tile 32 [0] (by decide)

theorem rows_apply (q : Fin 1024) (c : Fin 128) : rows (ix2 q c) = BitVec.ofNat 32 q.val := by
  show BitVec.ofNat 32 (0 * 1024 + q.val) = _
  simp

/-- A stage on tiles: rows at distance `2 ^ t` compared, in groups of `k` rows. -/
structure Step where
  /-- The exponent of the distance. -/
  t : ℕ
  /-- The group. -/
  k : ℕ
  /-- What it computes. -/
  run : St → St
  /-- What it does to a column. -/
  col_run : ∀ (x : St) (c : Fin 128), col (run x) c = Network.apply (stage 10 t (win k)) (col x c)

/-- A stage of the last level, at a distance of at least eight. -/
def Step.full (g j t : ℕ) (ht : t < 10 := by decide) (hj : j = 2 ^ t := by decide)
    (h : g * 2 * j = 1024 := by decide) : Step :=
  ⟨t, 1024, stageFull h, col_stageFull ht hj h⟩

/-- A stage of another level, at a distance of at least eight. -/
def Step.both (d m j t : ℕ) (ht : t < 10 := by decide) (hj : j = 2 ^ t := by decide)
    (h : d * 2 * m * 2 * j = 1024 := by decide) : Step :=
  ⟨t, j * 2 * m, stageBoth h, col_stageBoth ht hj rfl h⟩

/-- A stage at a distance below eight, in groups of eight rows or more. -/
def Step.halves (g k j r t u : ℕ) (ht : t < 10 := by decide) (hj : j = 2 ^ t := by decide)
    (hu : k = j * (2 * u) := by decide) (h : g * 2 * k = 1024 := by decide) (hr : j + r = k := by decide) : Step :=
  ⟨t, k, stageHalves h j r hr (clear rows (BitVec.ofNat 32 j)), col_stageHalves ht hj hu h hr _ (by
    subst hj
    exact fun q c => clear_apply rows rows_apply t ht q c)⟩

/-- The rows that keep the greater entry, in groups of `k` rows: the earlier of a pair in an even group, the later one in
    an odd group. -/
def keeps (j k : BitVec 32) : IVec Tile 1 :=
  xori (xori (clear rows j) (clear rows k)) (constantI Tile 1 1#1)

theorem keeps_apply (t l : ℕ) (ht : t < 10) (hl : l < 10) (q : Fin 1024) (c : Fin 128) :
    keeps (BitVec.ofNat 32 (2 ^ t)) (BitVec.ofNat 32 (2 ^ l)) (ix2 q c)
      = BitVec.ofBool (win (2 ^ t) q == win (2 ^ l) q) := by
  show (clear rows (BitVec.ofNat 32 (2 ^ t)) (ix2 q c) ^^^ clear rows (BitVec.ofNat 32 (2 ^ l)) (ix2 q c)) ^^^ 1#1 = _
  rw [clear_apply rows rows_apply t ht, clear_apply rows rows_apply l hl]
  cases win (2 ^ t) q <;> cases win (2 ^ l) q <;> rfl

/-- The two rows of a pair lie in the same group. -/
theorem win_partner {t l : ℕ} (hl : t < l) (lo hi : Fin (2 ^ 10)) (h : lo.val / 2 ^ t % 2 = 0)
    (hh : hi.val = lo.val + 2 ^ t) : win (2 ^ l) hi = win (2 ^ l) lo := by
  have e : hi.val / 2 ^ l = lo.val / 2 ^ l := by
    rw [show 2 ^ l = 2 ^ t * (2 * 2 ^ (l - t - 1)) by rw [← pow_succ', ← pow_add]; congr 1; omega]
    rw [← Nat.div_div_eq_div_mul, ← Nat.div_div_eq_div_mul, ← Nat.div_div_eq_div_mul, ← Nat.div_div_eq_div_mul, hh,
      Nat.add_div_right _ (Nat.two_pow_pos t)]
    congr 1
    omega
  simp [win, e]

/-- A stage in groups of two or four rows. -/
def Step.roll (j r k t l : ℕ) (ht : t < 10 := by decide) (hj : j = 2 ^ t := by decide) (hk : k = 2 ^ l := by decide)
    (hl : l < 10 := by decide) (htl : t < l := by decide) (h : j + r = 1024 := by decide) : Step :=
  ⟨t, k, stageRoll j r h (clear rows (BitVec.ofNat 32 j)) (keeps (BitVec.ofNat 32 j) (BitVec.ofNat 32 k)),
    col_stageRoll ht hj h _ _ (by subst hj; exact fun q c => clear_apply rows rows_apply t ht q c)
      (by subst hj hk; exact fun q c => keeps_apply t l ht hl q c)
      (by subst hj hk; exact win_partner htl)⟩

/-- A stage of the last level at a distance below eight. -/
def Step.last (j r t : ℕ) (ht : t < 10 := by decide) (hj : j = 2 ^ t := by decide)
    (h : j + r = 1024 := by decide) : Step :=
  ⟨t, 1024, stageRoll j r h (clear rows (BitVec.ofNat 32 j)) (clear rows (BitVec.ofNat 32 j)),
    col_stageRoll ht hj h _ _ (by subst hj; exact fun q c => clear_apply rows rows_apply t ht q c)
      (by
        subst hj
        intro q c
        have e : win 1024 q = true := win_full q
        rw [clear_apply rows rows_apply t ht, e]
        simp)
      (fun lo hi _ _ => by rw [win_full, win_full])⟩

/-- The stages in groups of two, four and eight rows. -/
def stepsA : List Step :=
  [.roll 1 1023 2 0 1,
    .roll 2 1022 4 1 2, .roll 1 1023 4 0 2,
    .halves 64 8 4 4 2 1, .halves 64 8 2 6 1 2, .halves 64 8 1 7 0 4]

/-- The stages in groups of sixteen and of thirty-two rows. -/
def stepsB : List Step :=
  [.both 32 1 8 3, .halves 32 16 4 12 2 2, .halves 32 16 2 14 1 4, .halves 32 16 1 15 0 8,
    .both 16 1 16 4, .both 16 2 8 3, .halves 16 32 4 28 2 4, .halves 16 32 2 30 1 8, .halves 16 32 1 31 0 16]

/-- The stages in groups of sixty-four and of a hundred and twenty-eight rows. -/
def stepsC : List Step :=
  [.both 8 1 32 5, .both 8 2 16 4, .both 8 4 8 3,
    .halves 8 64 4 60 2 8, .halves 8 64 2 62 1 16, .halves 8 64 1 63 0 32,
    .both 4 1 64 6, .both 4 2 32 5, .both 4 4 16 4, .both 4 8 8 3,
    .halves 4 128 4 124 2 16, .halves 4 128 2 126 1 32, .halves 4 128 1 127 0 64]

/-- The stages in groups of two hundred and fifty-six rows. -/
def stepsD : List Step :=
  [.both 2 1 128 7, .both 2 2 64 6, .both 2 4 32 5, .both 2 8 16 4, .both 2 16 8 3,
    .halves 2 256 4 252 2 32, .halves 2 256 2 254 1 64, .halves 2 256 1 255 0 128]

/-- The stages in groups of five hundred and twelve rows. -/
def stepsE : List Step :=
  [.both 1 1 256 8, .both 1 2 128 7, .both 1 4 64 6, .both 1 8 32 5, .both 1 16 16 4, .both 1 32 8 3,
    .halves 1 512 4 508 2 64, .halves 1 512 2 510 1 128, .halves 1 512 1 511 0 256]

/-- The stages of the last level. -/
def stepsF : List Step :=
  [.full 1 512 9, .full 2 256 8, .full 4 128 7, .full 8 64 6, .full 16 32 5, .full 32 16 4, .full 64 8 3,
    .last 4 1020 2, .last 2 1022 1, .last 1 1023 0]

/-- Some stages, one after the other. -/
def runs (l : List Step) (x : St) : St := l.foldl (fun y f => f.run y) x

theorem col_runs (l : List Step) (x : St) (c : Fin 128) :
    col (runs l x) c = Network.apply (l.flatMap fun f => stage 10 f.t (win f.k)) (col x c) := by
  induction l generalizing x with
  | nil => rfl
  | cons f l ih =>
    show col (runs l (f.run x)) c = _
    rw [ih, f.col_run, List.flatMap_cons, Network.apply_append]

/-- All the stages. -/
def steps : List Step := stepsA ++ stepsB ++ stepsC ++ stepsD ++ stepsE ++ stepsF

/-- They are those of the bitonic network that sorts downwards. -/
theorem steps_net : (steps.flatMap fun f => stage 10 f.t (win f.k)) = sortNet 10 true := by
  have e : ∀ l s : ℕ, stage 10 s (fun i => decide (i.val &&& 2 ^ (l + 1) = 0) == true) = stage 10 s (win (2 ^ (l + 1))) := by
    intro l s
    congr 1
    funext i
    simp only [win, and_two_pow_iff, beq_true]
  have h : steps.map (fun f => (f.t, f.k))
      = (List.range 10).flatMap fun l => (List.range (l + 1)).reverse.map fun s => (s, 2 ^ (l + 1)) := by
    rfl
  have h2 : (steps.flatMap fun f => stage 10 f.t (win f.k))
      = (steps.map fun f => (f.t, f.k)).flatMap fun p => stage 10 p.1 (win p.2) := by
    rw [List.flatMap_map]
  rw [h2, h, List.flatMap_assoc]
  unfold sortNet
  congr 1
  funext l
  rw [List.flatMap_map]
  congr 1
  funext s
  exact (e l s).symm

/-- What the stages leave in a column is sorted downwards. -/
theorem col_steps (x : St) (c : Fin 128) : col (runs steps x) c = Network.apply (sortNet 10 true) (col x c) := by
  rw [col_runs, steps_net]

end Cert.Proof.Sort

end

end
-- ==== Proof.Logits.lean ====
/-
  What the kernel's body computes from its blocks before it sorts: for a tile of 1024 key positions and 128 query
  positions the masked logits and the key positions, as the printed operations compute them.
-/
module

public import proofs.«01_k».proof.Proof.Gen.KernelIdeal.Skeleton
public import proofs.«01_k».proof.Proof.Chain

@[expose] public section

noncomputable section

namespace Cert.Proof

open Idealize.ShloMosaic Idealize.ShloMosaic.ValueIdx Cert.KernelIdeal Cert.KernelIdeal.Gen
open Cert.Proof.Sort

/-- A column of a block of sixteen columns. -/
theorem slice_head (h : Fin 16) : Shape.Slices S128x16 ![0, h.val] S128x1 :=
  ⟨rfl, fun a => by fin_cases a <;> simp [S128x16, S128x1]⟩

/-- The contribution of a head added to the sum so far: the products of keys and scaled queries, those below zero
    dropped, times the head's weights. -/
def addHead (k : FVec Ideal S1024x128 .f32) (w s : FVec Ideal S128x16 .f32) (h : Fin 16) (q : FVec Ideal S128x128 .f32)
    (acc : FVec Ideal S1024x128 .f32) : FVec Ideal S1024x128 .f32 :=
  addf acc
    (mulf
      (maximumf
        (matmul dot_S1024x128_S128x128_S1024x128_1_1_0_0_n_n none k
          (mulf q
            (broadcastTo S128x128
              (shapeCast S128x1
                (shapeCast S128 (extractStridedSlice S128x1 ![0, h.val] s (slice_head h)) shapeCasts_S128x1_S128)
                shapeCasts_S128_S128x1)
              broadcasts_S128x1_S128x128))
          (constant S1024x128 .f32 0x00000000#32))
        (broadcast S1024x128 (Scalar.ofBits .f32 0x00000000#32)))
      (broadcastTo S1024x128
        (shapeCast S1x128
          (shapeCast S128 (extractStridedSlice S128x1 ![0, h.val] w (slice_head h)) shapeCasts_S128x1_S128)
          shapeCasts_S128_S1x128)
        broadcasts_S1x128_S1024x128))

/-- The sum over the first `n` heads. -/
def sumHeads (k : FVec Ideal S1024x128 .f32) (w s : FVec Ideal S128x16 .f32) (q : Fin 16 → FVec Ideal S128x128 .f32) :
    (n : ℕ) → n ≤ 16 → FVec Ideal S1024x128 .f32
  | 0, _ => broadcast S1024x128 (Scalar.ofBits .f32 0x00000000#32)
  | n + 1, hn => addHead k w s ⟨n, hn⟩ (q ⟨n, hn⟩) (sumHeads k w s q n (Nat.le_of_succ_le hn))

/-- The bit that says which keys a query may look at: those at its own position or before it. -/
def causal (p : BitVec 32) : IVec S1024x128 1 :=
  cmpi .sle (iota .tc S1024x128 32 [0] iota_S1024x128_d0_w32)
    (addi (iota .tc S1024x128 32 [1] iota_S1024x128_d1_w32) (broadcast S1024x128 (Scalar.muli p 128#32)))

/-- The masked logits and the masked key positions. -/
def start (p : BitVec 32) (k : FVec Ideal S1024x128 .f32) (ks : FVec Ideal S1024x1 .f32) (w s : FVec Ideal S128x16 .f32)
    (q : Fin 16 → FVec Ideal S128x128 .f32) : St :=
  (select (causal p)
      (mulf (sumHeads k w s q 16 le_rfl) (broadcastTo S1024x128 ks broadcasts_S1024x1_S1024x128))
      (broadcast S1024x128 (Named.named κ "mask" 0xF149F2CA#32)),
    select (causal p) (iota .tc S1024x128 32 [0] iota_S1024x128_d0_w32) (broadcast S1024x128 4294967295#32))

end Cert.Proof

end

end
-- ==== Proof.Payload.lean ====
/-
  What the kernel's body stores: the two halves of the sorted tile, turned over.
-/
module

public import proofs.«01_k».proof.Proof.Gen.KernelIdeal.Frame
public import proofs.«01_k».proof.Proof.Logits

@[expose] public section

noncomputable section

namespace Cert.Proof

open Idealize.ShloMosaic Idealize.ShloMosaic.ValueIdx Idealize.ShloMosaic.Tactic Cert.KernelIdeal Cert.KernelIdeal.Gen
open Cert.Proof.Sort

theorem inb_head (h : Fin 16) : ∀ a, (![0, 128 * h.val] : Fin 2 → ℕ) a + S128x128.size a ≤ S128x2048.size a := by
  intro a
  fin_cases a
  · show 0 + 128 ≤ 128
    omega
  · show 128 * h.val + 128 ≤ 2048
    omega

variable (c : Dev nD) (i : grid1.Coords) (arg2 : Memref sig .tc .vmem S128x2048 .f32) (harg2 : arg2.IsWhole)
  (arg3 : Memref sig .tc .vmem S1024x128 .f32) (harg3 : arg3.IsWhole) (arg4 : Memref sig .tc .vmem S1024x1 .f32)
  (harg4 : arg4.IsWhole) (arg5 : Memref sig .tc .vmem S128x16 .f32) (harg5 : arg5.IsWhole)
  (arg6 : Memref sig .tc .vmem S128x16 .f32) (harg6 : arg6.IsWhole) (arg7 : Memref sig .tc .vmem S128x1024 .f32)
  (harg7 : arg7.IsWhole) (arg8 : Memref sig .tc .vmem S128x1024 .i32) (harg8 : arg8.IsWhole)
  (x0 : Vec Ideal S128x2048 .f32) (x1 : Vec Ideal S1024x128 .f32) (x2 : Vec Ideal S1024x1 .f32)
  (x3 : Vec Ideal S128x16 .f32) (x4 : Vec Ideal S128x16 .f32)

/-- The tile before it is sorted, from what the body's loads read. -/
def loaded : St :=
  start (BitVec.ofNat 32 (i 1).val)
    (shapeCast S1024x128 (View.readAt (Elt Ideal) arg3.view
      (Rect.unit (s := S1024x128) ![0, 0] S1024x128.size inb_S1024x128_S1024x128_0_0).toLoadRect (harg3.unread x1))
      shapeCasts_S1024x128_S1024x128)
    (shapeCast S1024x1 (View.readAt (Elt Ideal) arg4.view
      (Rect.unit (s := S1024x1) (k1_off1 i) S1024x1.size (k1_off1_inb i)).toLoadRect (harg4.unread x2))
      shapeCasts_S1024x1_S1024x1)
    (shapeCast S128x16 (View.readAt (Elt Ideal) arg5.view
      (Rect.unit (s := S128x16) ![0, 0] S128x16.size inb_S128x16_S128x16_0_0).toLoadRect (harg5.unread x3))
      shapeCasts_S128x16_S128x16)
    (shapeCast S128x16 (View.readAt (Elt Ideal) arg6.view
      (Rect.unit (s := S128x16) ![0, 0] S128x16.size inb_S128x16_S128x16_0_0).toLoadRect (harg6.unread x4))
      shapeCasts_S128x16_S128x16)
    (fun h => shapeCast S128x128 (View.readAt (Elt Ideal) arg2.view
      (Rect.unit (s := S128x2048) ![0, 128 * h.val] S128x128.size (inb_head h)).toLoadRect (harg2.unread x0))
      shapeCasts_S128x128_S128x128)

/-- The values that the body stores. -/
theorem pieces_values :
    (kernelRun1_A (F := Ideal) c i arg2 harg2 arg3 harg3 arg4 harg4 arg5 harg5 arg6 harg6 arg7 harg7 arg8 harg8
        x0 x1 x2 x3 x4).1
      = [⟨Rect.unit ![0, 0] ![128, 1024] inb_S128x1024_S128x1024_0_0,
          transpose S128x1024 [1, 0]
            (runs steps (loaded i arg2 harg2 arg3 harg3 arg4 harg4 arg5 harg5 arg6 harg6 x0 x1 x2 x3 x4)).1
            transposes_S1024x128_p1_0_S128x1024⟩] := by
  sl_kernel_rfl

/-- The indices that the body stores. -/
theorem pieces_indices :
    (kernelRun1_A (F := Ideal) c i arg2 harg2 arg3 harg3 arg4 harg4 arg5 harg5 arg6 harg6 arg7 harg7 arg8 harg8
        x0 x1 x2 x3 x4).2.1
      = [⟨Rect.unit ![0, 0] ![128, 1024] inb_S128x1024_S128x1024_0_0,
          transpose S128x1024 [1, 0]
            (runs steps (loaded i arg2 harg2 arg3 harg3 arg4 harg4 arg5 harg5 arg6 harg6 x0 x1 x2 x3 x4)).2
            transposes_S1024x128_p1_0_S128x1024⟩] := by
  sl_kernel_rfl

end Cert.Proof

end

end
-- ==== Proof.Cells.lean ====
/-
  What a row of the results is, as mathematics: the logits of a query against the keys of its context, the keys after its
  position masked out, and the entries sorted downwards.
-/
module

public import proofs.«01_k».proof.Proof.Chain

@[expose] public section

noncomputable section

namespace Cert.Proof

open Idealize.ShloMosaic Idealize.ShloMosaic.ValueIdx Idealize.ShloMosaic.SortNet
open Cert.Proof.Sort
open scoped BigOperators

/-- A head's part of a logit: the product of the key and the scaled query, dropped below zero, times the weight. -/
def headLogit (k q : Fin 128 → EReal) (s w : EReal) : EReal := max (∑ d, k d * (q d * s)) 0 * w

/-- A logit: the sum over the heads, times the key's scale. -/
def logit (k : Fin 128 → EReal) (q : Fin 16 → Fin 128 → EReal) (s w : Fin 16 → EReal) (ks : EReal) : EReal :=
  (∑ h, headLogit k (q h) (s h) (w h)) * ks

/-- The entries of a query at position `p`, given its logits: a key after that position has the value `⊥` and the
    index `-1`. -/
def entries (p : ℕ) (l : Fin (2 ^ 10) → EReal) : Fin (2 ^ 10) → Ent :=
  fun s => ent (if s.val ≤ p then l s else ⊥) (if s.val ≤ p then BitVec.ofNat 32 s.val else 4294967295#32)

/-- The entries sorted downwards. -/
def sorted (p : ℕ) (l : Fin (2 ^ 10) → EReal) : Fin (2 ^ 10) → Ent := Network.apply (sortNet 10 true) (entries p l)

/-- The value of an entry. -/
def valueOf (e : Ent) : EReal := (ofLex e).1

/-- The index of an entry. -/
def indexOf (e : Ent) : BitVec 32 := BitVec.ofInt 32 (OrderDual.ofDual (ofLex e).2)

theorem valueOf_ent (v : EReal) (i : BitVec 32) : valueOf (ent v i) = v := rfl

theorem indexOf_ent (v : EReal) (i : BitVec 32) : indexOf (ent v i) = i := BitVec.ofInt_toInt

/-- The key position that the query `r` of all `2048` has in its context, and the context's first row. -/
def rowKey (r : Fin 2048) (s : Fin (2 ^ 10)) : Fin 2048 :=
  ⟨r.val / 1024 * 1024 + s.val, by have := r.isLt; have := s.isLt; omega⟩

/-- The column of the query codes that holds coordinate `d` of head `h`. -/
def headCol (h : Fin 16) (d : Fin 128) : Fin 2048 := ⟨128 * h.val + d.val, by omega⟩

variable (qq : (⟨2, ![2048, 2048]⟩ : Shape).Idx → EReal) (kq : (⟨2, ![2048, 128]⟩ : Shape).Idx → EReal)
  (ks : (⟨2, ![2048, 1]⟩ : Shape).Idx → EReal) (wq iq : (⟨2, ![2048, 16]⟩ : Shape).Idx → EReal)

/-- The logits of query `r` against the keys of its context. -/
def logits (r : Fin 2048) (s : Fin (2 ^ 10)) : EReal :=
  logit (fun d => kq (ix2 (rowKey r s) d)) (fun h d => qq (ix2 r (headCol h d))) (fun h => iq (ix2 r h))
    (fun h => wq (ix2 r h)) (ks (ix2 (rowKey r s) (0 : Fin 1)))

/-- The sorted entries of query `r`. -/
def rowSorted (r : Fin 2048) : Fin (2 ^ 10) → Ent := sorted (r.val % 1024) (logits qq kq ks wq iq r)

/-- The values that are asked for. -/
def topValues : (⟨2, ![2048, 1024]⟩ : Shape).Idx → EReal :=
  fun i => valueOf (rowSorted qq kq ks wq iq (i 0) (i 1))

/-- The indices that are asked for. -/
def topIndices : (⟨2, ![2048, 1024]⟩ : Shape).Idx → BitVec 32 :=
  fun i => indexOf (rowSorted qq kq ks wq iq (i 0) (i 1))

end Cert.Proof

end

end
-- ==== Proof.Tile.lean ====
/-
  The masked logits of a tile, read at an index: the sum over the heads, and the mask.
-/
module

public import proofs.«01_k».proof.Proof.Logits
public import proofs.«01_k».proof.Proof.Cells
public import Idealize.ShloMosaic.Lib.MatmulPlain

@[expose] public section

noncomputable section

namespace Cert.Proof

open Idealize.ShloMosaic Idealize.ShloMosaic.ValueIdx Cert.KernelIdeal Cert.KernelIdeal.Gen
open Cert.Proof.Sort Idealize.ShloMosaic.SortNet
open scoped BigOperators

variable (k : FVec Ideal S1024x128 .f32) (ks : FVec Ideal S1024x1 .f32) (w s : FVec Ideal S128x16 .f32)
  (q : Fin 16 → FVec Ideal S128x128 .f32)

/-- Column `h` of a block of sixteen columns, spread over the columns of a tile. -/
theorem spread_rows (x : FVec Ideal S128x16 .f32) (h : Fin 16) (c d : Fin 128) :
    broadcastTo S128x128
      (shapeCast S128x1 (shapeCast S128 (extractStridedSlice S128x1 ![0, h.val] x (slice_head h)) shapeCasts_S128x1_S128)
        shapeCasts_S128_S128x1) broadcasts_S128x1_S128x128 (ix2 c d) = x (ix2 c h) := by
  rw [broadcastTo_apply _ _ (ix2 c d) (ix2 c (0 : Fin 1)) (fun a => by fin_cases a <;> simp),
    shapeCast_apply _ _ _ (ix1 c) (by rw [Shape.rowMajor_val_two, Shape.rowMajor_val_one]; simp),
    shapeCast_apply _ _ _ (ix2 c (0 : Fin 1)) (by rw [Shape.rowMajor_val_two, Shape.rowMajor_val_one]; simp),
    extractStridedSlice_apply _ _ _ _ (ix2 c h) (fun a => by fin_cases a <;> simp)]

/-- The same, spread over the rows. -/
theorem spread_cols (x : FVec Ideal S128x16 .f32) (h : Fin 16) (r : Fin 1024) (c : Fin 128) :
    broadcastTo S1024x128
      (shapeCast S1x128 (shapeCast S128 (extractStridedSlice S128x1 ![0, h.val] x (slice_head h)) shapeCasts_S128x1_S128)
        shapeCasts_S128_S1x128) broadcasts_S1x128_S1024x128 (ix2 r c) = x (ix2 c h) := by
  rw [broadcastTo_apply _ _ (ix2 r c) (ix2 (0 : Fin 1) c) (fun a => by fin_cases a <;> simp),
    shapeCast_apply _ _ _ (ix1 c) (by rw [Shape.rowMajor_val_two, Shape.rowMajor_val_one]; simp),
    shapeCast_apply _ _ _ (ix2 c (0 : Fin 1)) (by rw [Shape.rowMajor_val_two, Shape.rowMajor_val_one]; simp),
    extractStridedSlice_apply _ _ _ _ (ix2 c h) (fun a => by fin_cases a <;> simp)]

theorem zero_bits : (Scalar.ofBits .f32 0x00000000#32 : Ideal .f32) = (0 : EReal) := Ideal.ofBits_zero_f32

theorem addHead_apply (h : Fin 16) (qh : FVec Ideal S128x128 .f32) (acc : FVec Ideal S1024x128 .f32) (r : Fin 1024)
    (c : Fin 128) :
    addHead k w s h qh acc (ix2 r c)
      = acc (ix2 r c)
        + headLogit (fun d => k (ix2 r d)) (fun d => qh (ix2 c d)) (s (ix2 c h)) (w (ix2 c h)) := by
  have hm : ∀ y : FVec Ideal S128x128 .f32,
      matmul dot_S1024x128_S128x128_S1024x128_1_1_0_0_n_n none k y (constant S1024x128 .f32 0x00000000#32) (ix2 r c)
        = ∑ d : Fin 128, k (ix2 r d) * y (ix2 c d) := fun y => by
    refine (Ideal.matmul_transposedRhs_apply (M := 1024) (K := 128) (N := 128) none k y _ r c).trans ?_
    show (Scalar.ofBits .f32 0x00000000#32 : Ideal .f32) + _ = _
    rw [zero_bits, zero_add]
  show acc (ix2 r c) + max (matmul _ none k _ _ (ix2 r c)) (Scalar.ofBits .f32 0x00000000#32 : Ideal .f32) * _ = _
  rw [hm, zero_bits, spread_cols]
  unfold headLogit
  congr 3
  refine Finset.sum_congr rfl fun d _ => ?_
  show k (ix2 r d) * (qh (ix2 c d) * _) = _
  rw [spread_rows]

theorem sumHeads_apply (n : ℕ) (hn : n ≤ 16) (r : Fin 1024) (c : Fin 128) :
    sumHeads k w s q n hn (ix2 r c)
      = ∑ h : Fin n, headLogit (fun d => k (ix2 r d)) (fun d => q ⟨h.val, h.isLt.trans_le hn⟩ (ix2 c d))
          (s (ix2 c (⟨h.val, h.isLt.trans_le hn⟩ : Fin 16))) (w (ix2 c (⟨h.val, h.isLt.trans_le hn⟩ : Fin 16))) := by
  induction n with
  | zero => exact zero_bits
  | succ n ih =>
    rw [sumHeads, addHead_apply, ih, Fin.sum_univ_castSucc]
    rfl

theorem sle_ofNat {a b : ℕ} (ha : a < 2 ^ 31) (hb : b < 2 ^ 31) :
    (BitVec.ofNat 32 a).sle (BitVec.ofNat 32 b) = decide (a ≤ b) := by
  rw [BitVec.sle, BitVec.toInt_ofNat', BitVec.toInt_ofNat']
  congr 1
  have e : ∀ x : ℕ, x < 2 ^ 31 → ((x : ℤ)).bmod (2 ^ 32) = x := fun x hx => by
    rw [Int.bmod_eq_of_le] <;> omega
  push_cast at e ⊢
  simp_all

theorem causal_apply (b : Fin 8) (r : Fin 1024) (c : Fin 128) :
    causal (BitVec.ofNat 32 b.val) (ix2 r c) = BitVec.ofBool (decide (r.val ≤ b.val * 128 + c.val)) := by
  have e : BitVec.ofNat 32 c.val + BitVec.ofNat 32 b.val * 128#32 = BitVec.ofNat 32 (b.val * 128 + c.val) := by
    apply BitVec.eq_of_toNat_eq
    simp
    omega
  show BitVec.ofBool ((BitVec.ofNat 32 (0 * 1024 + r.val)).sle
    (BitVec.ofNat 32 (0 * 128 + c.val) + BitVec.ofNat 32 b.val * 128#32)) = _
  rw [Nat.zero_mul, Nat.zero_add, Nat.zero_add, e, sle_ofNat (by omega) (by omega)]

/-- The column of a query before it is sorted. -/
theorem col_start (b : Fin 8) (c : Fin 128) :
    col (start (BitVec.ofNat 32 b.val) k ks w s q) c
      = entries (b.val * 128 + c.val) fun r =>
          logit (fun d => k (ix2 (n0 := 1024) r d)) (fun h d => q h (ix2 c d)) (fun h => s (ix2 c h)) (fun h => w (ix2 c h))
            (ks (ix2 (n0 := 1024) r (0 : Fin 1))) := by
  funext r
  have hc := causal_apply b r c
  show ent (Scalar.select (causal _ (ix2 (n0 := 1024) r c))
      (sumHeads k w s q 16 le_rfl (ix2 (n0 := 1024) r c)
        * broadcastTo S1024x128 ks broadcasts_S1024x1_S1024x128 (ix2 (n0 := 1024) r c))
      (Named.named κ "mask" 0xF149F2CA#32 : Ideal .f32))
    (Scalar.select (causal _ (ix2 (n0 := 1024) r c)) (BitVec.ofNat 32 (0 * 1024 + r.val)) 4294967295#32) = _
  rw [hc, select_ofBool, select_ofBool, sumHeads_apply,
    broadcastTo_apply _ _ (ix2 (n0 := 1024) r c) (ix2 (n0 := 1024) r (0 : Fin 1)) (fun a => by fin_cases a <;> simp)]
  unfold entries logit
  simp only [decide_eq_true_eq, Nat.zero_mul, Nat.zero_add]
  rfl

end Cert.Proof

end

end
-- ==== Proof.Blocks.lean ====
/-
  The result arrays of the kernel: every block holds the sorted entries of its queries, so the arrays are the values and the
  indices of the sorted entries.
-/
module

public import proofs.«01_k».proof.Proof.Payload
public import proofs.«01_k».proof.Proof.Tile
public import Idealize.ShloMosaic.Lib.Pipeline.ValueKit.Geometry
public import Idealize.ShloMosaic.Lib.Pipeline.ValueKit.Tiles

@[expose] public section

noncomputable section

namespace Cert.Proof

open Idealize.SL Idealize.SL.RA
open Idealize.ShloMosaic Idealize.ShloMosaic.TcCoe Idealize.ShloMosaic.ValueIdx Idealize.ShloMosaic.Tactic Cert.KernelIdeal Cert.KernelIdeal.Gen
open Cert.Proof.Sort

section Body

variable (c : Dev nD) (i : grid1.Coords) (arg2 : Memref sig .tc .vmem S128x2048 .f32) (harg2 : arg2.IsWhole)
  (arg3 : Memref sig .tc .vmem S1024x128 .f32) (harg3 : arg3.IsWhole) (arg4 : Memref sig .tc .vmem S1024x1 .f32)
  (harg4 : arg4.IsWhole) (arg5 : Memref sig .tc .vmem S128x16 .f32) (harg5 : arg5.IsWhole)
  (arg6 : Memref sig .tc .vmem S128x16 .f32) (harg6 : arg6.IsWhole) (arg7 : Memref sig .tc .vmem S128x1024 .f32)
  (harg7 : arg7.IsWhole) (arg8 : Memref sig .tc .vmem S128x1024 .i32) (harg8 : arg8.IsWhole)
  (x0 : Vec Ideal S128x2048 .f32) (x1 : Vec Ideal S1024x128 .f32) (x2 : Vec Ideal S1024x1 .f32)
  (x3 : Vec Ideal S128x16 .f32) (x4 : Vec Ideal S128x16 .f32)

/-- The logits of query `q` of a block. -/
def blockLogits (q : Fin 128) (r : Fin (2 ^ 10)) : EReal :=
  logit (fun d => x1 (ix2 (n0 := 1024) r d)) (fun h d => x0 (ix2 q (headCol h d))) (fun h => x4 (ix2 q h))
    (fun h => x3 (ix2 q h)) (x2 (ix2 (n0 := 1024) r (0 : Fin 1)))

theorem read_back {s : Shape} {e : EltTy} (a : Memref sig .tc .vmem s e) (h : a.IsWhole) (x : Vec Ideal s e) (r : Rect s) :
    View.readAt (Elt Ideal) a.view r.toLoadRect (h.unread x) = View.ld x r := by
  show View.ld (a.view.read (Elt Ideal) (h.unread x)) r = _
  rw [h.read_unread]

theorem start_congr {p : BitVec 32} {k k' : FVec Ideal S1024x128 .f32} {ks ks' : FVec Ideal S1024x1 .f32}
    {w w' s s' : FVec Ideal S128x16 .f32} {q q' : Fin 16 → FVec Ideal S128x128 .f32} (h1 : k = k') (h2 : ks = ks')
    (h3 : w = w') (h4 : s = s') (h5 : q = q') : start p k ks w s q = start p k' ks' w' s' q' := by
  subst h1 h2 h3 h4 h5
  rfl

/-- The column of a query, sorted. -/
theorem col_loaded (q : Fin 128) :
    col (runs steps (loaded i arg2 harg2 arg3 harg3 arg4 harg4 arg5 harg5 arg6 harg6 x0 x1 x2 x3 x4)) q
      = sorted ((i 1).val * 128 + q.val) (blockLogits x0 x1 x2 x3 x4 q) := by
  have e1 : View.ld x1 (Rect.unit (s := S1024x128) ![0, 0] S1024x128.size inb_S1024x128_S1024x128_0_0) = x1 :=
    View.ld_unit_lit _ _ (fun a => by fin_cases a <;> rfl)
  have e2 : View.ld x2 (Rect.unit (s := S1024x1) (k1_off1 i) S1024x1.size (k1_off1_inb i)) = x2 :=
    View.ld_unit_lit _ _ (fun a => by
      fin_cases a
      · show BitVec.toNat (0#32 * BitVec.ofNat 32 (i 1).val) = 0
        rw [BitVec.zero_mul]
        rfl
      · rfl)
  have e3 : View.ld x3 (Rect.unit (s := S128x16) ![0, 0] S128x16.size inb_S128x16_S128x16_0_0) = x3 :=
    View.ld_unit_lit _ _ (fun a => by fin_cases a <;> rfl)
  have e4 : View.ld x4 (Rect.unit (s := S128x16) ![0, 0] S128x16.size inb_S128x16_S128x16_0_0) = x4 :=
    View.ld_unit_lit _ _ (fun a => by fin_cases a <;> rfl)
  have e0 : ∀ (h : Fin 16) (d : Fin 128),
      View.ld x0 (Rect.unit (s := S128x2048) ![0, 128 * h.val] S128x128.size (inb_head h)) (ix2 q d)
        = x0 (ix2 q (headCol h d)) := fun h d =>
    View.ld_unit_apply_of _ _ _ _ _ _ (fun a => by fin_cases a <;> simp [headCol])
  have hl : loaded i arg2 harg2 arg3 harg3 arg4 harg4 arg5 harg5 arg6 harg6 x0 x1 x2 x3 x4
      = start (BitVec.ofNat 32 (i 1).val) x1 x2 x3 x4 (fun h =>
          View.ld x0 (Rect.unit (s := S128x2048) ![0, 128 * h.val] S128x128.size (inb_head h))) :=
    start_congr ((shapeCast_self _ _).trans ((read_back arg3 harg3 x1 _).trans e1))
      ((shapeCast_self _ _).trans ((read_back arg4 harg4 x2 _).trans e2))
      ((shapeCast_self _ _).trans ((read_back arg5 harg5 x3 _).trans e3))
      ((shapeCast_self _ _).trans ((read_back arg6 harg6 x4 _).trans e4))
      (funext fun h => (shapeCast_self _ _).trans (read_back arg2 harg2 x0 _))
  rw [col_steps, hl, col_start (b := i 1)]
  simp only [e0]
  rfl

theorem out_values (q : Fin 128) (n : Fin 1024) :
    out1_A_5 (F := Ideal) c i arg2 harg2 arg3 harg3 arg4 harg4 arg5 harg5 arg6 harg6 arg7 harg7 arg8 harg8
        x0 x1 x2 x3 x4 (ix2 q n)
      = valueOf (sorted ((i 1).val * 128 + q.val) (blockLogits x0 x1 x2 x3 x4 q) n) := by
  unfold out1_A_5
  rw [View.read_writes_eq_canon _ _ _ (cover1_A_5 c i arg2 harg2 arg3 harg3 arg4 harg4 arg5 harg5 arg6 harg6 arg7 harg7
    arg8 harg8 x0 x1 x2 x3 x4), pieces_values]
  refine (congrFun (View.canon_cons_unit_lit (S := S128x1024) _ _ [] (fun a => by fin_cases a <;> rfl)) _).trans ?_
  refine (transpose_apply _ _ _ (ix2 q n) (ix2 (n0 := 1024) (n1 := 128) n q) (fun a => by fin_cases a <;> rfl)).trans ?_
  rw [← col_loaded i arg2 harg2 arg3 harg3 arg4 harg4 arg5 harg5 arg6 harg6]
  rfl

theorem out_indices (q : Fin 128) (n : Fin 1024) :
    out1_A_6 (F := Ideal) c i arg2 harg2 arg3 harg3 arg4 harg4 arg5 harg5 arg6 harg6 arg7 harg7 arg8 harg8
        x0 x1 x2 x3 x4 (ix2 q n)
      = indexOf (sorted ((i 1).val * 128 + q.val) (blockLogits x0 x1 x2 x3 x4 q) n) := by
  unfold out1_A_6
  rw [View.read_writes_eq_canon _ _ _ (cover1_A_6 c i arg2 harg2 arg3 harg3 arg4 harg4 arg5 harg5 arg6 harg6 arg7 harg7
    arg8 harg8 x0 x1 x2 x3 x4), pieces_indices]
  refine (congrFun (View.canon_cons_unit_lit (S := S128x1024) _ _ [] (fun a => by fin_cases a <;> rfl)) _).trans ?_
  refine (transpose_apply _ _ _ (ix2 q n) (ix2 (n0 := 1024) (n1 := 128) n q) (fun a => by fin_cases a <;> rfl)).trans ?_
  rw [← col_loaded i arg2 harg2 arg3 harg3 arg4 harg4 arg5 harg5 arg6 harg6]
  exact (indexOf_ent _ _).symm

end Body

section Array

variable (V : (c : Dev nD) → (b : Ref sig .tc) → Buf (Elt Ideal) ((c : Thread nD τ).loc b)) (c : Dev nD)

theorem index_row0 : ∀ t : Fin cfg1.N, win1_0.index t = ![(grid1.coords t 0).val * 8 + (grid1.coords t 1).val, 0] :=
  (by decide +kernel : ∀ t : Fin grid1.N, _)

theorem index_row1 : ∀ t : Fin cfg1.N, win1_1.index t = ![(grid1.coords t 0).val, 0] :=
  (by decide +kernel : ∀ t : Fin grid1.N, _)

theorem index_row2 : ∀ t : Fin cfg1.N, win1_2.index t = ![(grid1.coords t 0).val, 0] :=
  (by decide +kernel : ∀ t : Fin grid1.N, _)

theorem index_row3 : ∀ t : Fin cfg1.N, win1_3.index t = ![(grid1.coords t 0).val * 8 + (grid1.coords t 1).val, 0] :=
  (by decide +kernel : ∀ t : Fin grid1.N, _)

theorem index_row4 : ∀ t : Fin cfg1.N, win1_4.index t = ![(grid1.coords t 0).val * 8 + (grid1.coords t 1).val, 0] :=
  (by decide +kernel : ∀ t : Fin grid1.N, _)

theorem index_row5 : ∀ t : Fin cfg1.N, win1_5.index t = ![(grid1.coords t 0).val * 8 + (grid1.coords t 1).val, 0] :=
  (by decide +kernel : ∀ t : Fin grid1.N, _)

theorem index_row6 : ∀ t : Fin cfg1.N, win1_6.index t = ![(grid1.coords t 0).val * 8 + (grid1.coords t 1).val, 0] :=
  (by decide +kernel : ∀ t : Fin grid1.N, _)

/-- The row of the arrays that row `q` of the block of a grid point is. -/
def rowAt (t : Fin cfg1.N) (q : Fin 128) : Fin 2048 :=
  ⟨((grid1.coords t 0).val * 8 + (grid1.coords t 1).val) * 128 + q.val, by
    have h0 : (grid1.coords t 0).val < 2 := (grid1.coords t 0).isLt
    have h1 : (grid1.coords t 1).val < 8 := (grid1.coords t 1).isLt
    have := q.isLt
    omega⟩

theorem rowAt_mod (t : Fin cfg1.N) (q : Fin 128) : (rowAt t q).val % 1024 = (grid1.coords t 1).val * 128 + q.val := by
  have h1 : (grid1.coords t 1).val < 8 := (grid1.coords t 1).isLt
  have := q.isLt
  show (((grid1.coords t 0).val * 8 + (grid1.coords t 1).val) * 128 + q.val) % 1024 = _
  omega

theorem rowAt_div (t : Fin cfg1.N) (q : Fin 128) : (rowAt t q).val / 1024 = (grid1.coords t 0).val := by
  have h1 : (grid1.coords t 1).val < 8 := (grid1.coords t 1).isLt
  have := q.isLt
  show (((grid1.coords t 0).val * 8 + (grid1.coords t 1).val) * 128 + q.val) / 1024 = _
  omega

theorem rowKey_rowAt (t : Fin cfg1.N) (q : Fin 128) (r : Fin (2 ^ 10)) :
    (rowKey (rowAt t q) r).val = (grid1.coords t 0).val * 1024 + r.val := by
  show (rowAt t q).val / 1024 * 1024 + r.val = _
  rw [rowAt_div]

theorem rowAt_val (t : Fin cfg1.N) (q : Fin 128) :
    (rowAt t q).val = ((grid1.coords t 0).val * 8 + (grid1.coords t 1).val) * 128 + q.val := rfl

set_option maxHeartbeats 2000000 in
/-- The logits of a block's query are those of its row. -/
theorem blockLogits_eq (t : Fin cfg1.N) (q : Fin 128) :
    blockLogits (iblk1 V c 0 t) (iblk1 V c 1 t) (iblk1 V c 2 t) (iblk1 V c 3 t) (iblk1 V c 4 t) q
      = logits (V c main_v59_0) (V c main_v58) (V c main_v56) (V c main_v80) (V c main_v75) (rowAt t q) := by
  funext r
  unfold blockLogits logits
  congr 1
  · funext d
    show V c main_v58 _ = _
    congr 1
    blk_ext [index_row1, rowKey_rowAt]
  · funext h d
    show V c main_v59_0 _ = _
    congr 1
    blk_ext [index_row0, rowAt_val]
  · funext h
    show V c main_v75 _ = _
    congr 1
    blk_ext [index_row4, rowAt_val]
  · funext h
    show V c main_v80 _ = _
    congr 1
    blk_ext [index_row3, rowAt_val]
  · show V c main_v56 _ = _
    congr 1
    blk_ext [index_row2, rowKey_rowAt]

/-- What a grid point leaves in the values' block. -/
theorem block_values (t : Fin cfg1.N) (q : Fin 128) (n : Fin 1024) :
    (outsAt1 V c t).1 (ix2 q n) = topValues (V c main_v59_0) (V c main_v58) (V c main_v56) (V c main_v80) (V c main_v75)
      (ix2 (rowAt t q) n) := by
  unfold outsAt1
  dsimp only
  rw [out_values c (grid1.coords t) (ms1_0 t) (hs1_0 t) (ms1_1 t) (hs1_1 t) (ms1_2 t) (hs1_2 t)
    (ms1_3 t) (hs1_3 t) (ms1_4 t) (hs1_4 t) (ms1_5 t) (hs1_5 t) (ms1_6 t) (hs1_6 t)
    (iblk1 V c 0 t) (iblk1 V c 1 t) (iblk1 V c 2 t) (iblk1 V c 3 t) (iblk1 V c 4 t) q n, blockLogits_eq, ← rowAt_mod]
  rfl

/-- The values' array after the run. -/
theorem final_values :
    (dat1 V c).arrAt 5 cfg1.N
      = topValues (V c main_v59_0) (V c main_v58) (V c main_v56) (V c main_v80) (V c main_v75) := by
  refine (dat1 V c).arrAt_eq_of_covers 5 _ (by decide +kernel) fun t hf y => ?_
  blk_simp
  rw [after1_5]
  have hy : (win1_5.blk t).view.emb y = ix2 (rowAt t (y 0)) (y 1) := by
    blk_ext [index_row5, rowAt_val]
    rfl
  exact (congrArg (outsAt1 V c t).1 (eq_ix2 y)).trans
    ((block_values V c t (y 0) (y 1)).trans (congrArg _ hy.symm))

/-- What a grid point leaves in the indices' block. -/
theorem block_indices (t : Fin cfg1.N) (q : Fin 128) (n : Fin 1024) :
    (outsAt1 V c t).2 (ix2 q n) = topIndices (V c main_v59_0) (V c main_v58) (V c main_v56) (V c main_v80) (V c main_v75)
      (ix2 (rowAt t q) n) := by
  unfold outsAt1
  dsimp only
  rw [out_indices c (grid1.coords t) (ms1_0 t) (hs1_0 t) (ms1_1 t) (hs1_1 t) (ms1_2 t) (hs1_2 t)
    (ms1_3 t) (hs1_3 t) (ms1_4 t) (hs1_4 t) (ms1_5 t) (hs1_5 t) (ms1_6 t) (hs1_6 t)
    (iblk1 V c 0 t) (iblk1 V c 1 t) (iblk1 V c 2 t) (iblk1 V c 3 t) (iblk1 V c 4 t) q n, blockLogits_eq, ← rowAt_mod]
  rfl

/-- The indices' array after the run. -/
theorem final_indices :
    (dat1 V c).arrAt 6 cfg1.N
      = topIndices (V c main_v59_0) (V c main_v58) (V c main_v56) (V c main_v80) (V c main_v75) := by
  refine (dat1 V c).arrAt_eq_of_covers 6 _ (by decide +kernel) fun t hf y => ?_
  blk_simp
  rw [after1_6]
  have hy : (win1_6.blk t).view.emb y = ix2 (rowAt t (y 0)) (y 1) := by
    blk_ext [index_row6, rowAt_val]
    rfl
  exact (congrArg (outsAt1 V c t).2 (eq_ix2 y)).trans
    ((block_indices V c t (y 0) (y 1)).trans (congrArg _ hy.symm))

end Array

end Cert.Proof

end

end
-- ==== Proof.Rotation.lean ====
/-
  The rotation of a row of 128 features: the first 32 features and the next 32 are turned by the angles of the row's
  position, the last 64 stay.
-/
module

public import Idealize.ShloMosaic.Lib.ValueIdx
public import Idealize.ShloMosaic.Lib.Pipeline.Value
public import Idealize.ShloMosaic.PureOps.Ideal.Laws

@[expose] public section

noncomputable section

namespace Cert.Proof

open Idealize.ShloMosaic Idealize.ShloMosaic.ValueIdx

/-- The rotated row, from the row and the cosines and sines of its position. -/
def rotAt (x : Fin 128 → EReal) (c s : Fin 32 → EReal) (d : Fin 128) : EReal :=
  if h : d.val < 32 then x d * c ⟨d.val, h⟩ - x ⟨d.val + 32, by omega⟩ * s ⟨d.val, h⟩
  else if h' : d.val < 64 then
    x d * c ⟨d.val - 32, by omega⟩ + x ⟨d.val - 32, by omega⟩ * s ⟨d.val - 32, by omega⟩
  else x d

variable {n : ℕ} (x : FVec Ideal ⟨2, ![n, 128]⟩ .f32) (c s : FVec Ideal ⟨2, ![n, 32]⟩ .f32)

/-- The three pieces of the rotation. -/
abbrev rotList (h0 : (⟨2, ![n, 128]⟩ : Shape).Slices ![0, 0] ⟨2, ![n, 32]⟩)
    (h32 : (⟨2, ![n, 128]⟩ : Shape).Slices ![0, 32] ⟨2, ![n, 32]⟩)
    (h64 : (⟨2, ![n, 128]⟩ : Shape).Slices ![0, 64] ⟨2, ![n, 64]⟩) : List ((s : Shape) × (s.Idx → EReal)) :=
    [⟨⟨2, ![n, 32]⟩, subf (F := Ideal) (φ := .f32) (mulf (extractStridedSlice ⟨2, ![n, 32]⟩ ![0, 0] x h0) c)
        (mulf (extractStridedSlice ⟨2, ![n, 32]⟩ ![0, 32] x h32) s)⟩,
      ⟨⟨2, ![n, 32]⟩, addf (F := Ideal) (φ := .f32) (mulf (extractStridedSlice ⟨2, ![n, 32]⟩ ![0, 32] x h32) c)
        (mulf (extractStridedSlice ⟨2, ![n, 32]⟩ ![0, 0] x h0) s)⟩,
      ⟨⟨2, ![n, 64]⟩, extractStridedSlice ⟨2, ![n, 64]⟩ ![0, 64] x h64⟩]

/-- The rotation as three pieces side by side. -/
def rotPieces (h0 : (⟨2, ![n, 128]⟩ : Shape).Slices ![0, 0] ⟨2, ![n, 32]⟩)
    (h32 : (⟨2, ![n, 128]⟩ : Shape).Slices ![0, 32] ⟨2, ![n, 32]⟩)
    (h64 : (⟨2, ![n, 128]⟩ : Shape).Slices ![0, 64] ⟨2, ![n, 64]⟩)
    (hc : Shape.Concatenates [(⟨2, ![n, 32]⟩ : Shape), ⟨2, ![n, 32]⟩, ⟨2, ![n, 64]⟩] ⟨2, ![n, 128]⟩ 1) :
    FVec Ideal ⟨2, ![n, 128]⟩ .f32 :=
  concatenate ⟨2, ![n, 128]⟩ 1 (rotList x c s h0 h32 h64) hc

theorem slice_cols (m o : ℕ) (h : (⟨2, ![n, 128]⟩ : Shape).Slices ![0, o] ⟨2, ![n, m]⟩) (q : Fin n) (e : Fin m) (d : Fin 128)
    (hd : d.val = o + e.val) : extractStridedSlice ⟨2, ![n, m]⟩ ![0, o] x h (ix2 q e) = x (ix2 q d) :=
  extractStridedSlice_apply _ _ _ _ _ fun a => by
    fin_cases a
    · exact (Nat.zero_add _).symm
    · exact hd

theorem rotPieces_apply (h0 : (⟨2, ![n, 128]⟩ : Shape).Slices ![0, 0] ⟨2, ![n, 32]⟩)
    (h32 : (⟨2, ![n, 128]⟩ : Shape).Slices ![0, 32] ⟨2, ![n, 32]⟩)
    (h64 : (⟨2, ![n, 128]⟩ : Shape).Slices ![0, 64] ⟨2, ![n, 64]⟩)
    (hc : Shape.Concatenates [(⟨2, ![n, 32]⟩ : Shape), ⟨2, ![n, 32]⟩, ⟨2, ![n, 64]⟩] ⟨2, ![n, 128]⟩ 1)
    (q : Fin n) (d : Fin 128) :
    rotPieces x c s h0 h32 h64 hc (ix2 q d)
      = rotAt (fun d => x (ix2 q d)) (fun e => c (ix2 q e)) (fun e => s (ix2 q e)) d := by
  unfold rotPieces rotAt
  by_cases h : d.val < 32
  · rw [dif_pos h]
    refine (concatenate_apply_piece 1 (rotList x c s h0 h32 h64) hc (ix2 q d) 0 (Nat.lt_of_sub_ne_zero (by exact Nat.succ_ne_zero _)) ⟨2, ![n, 32]⟩ _ rfl rfl 0 rfl
      (ix2 q (⟨d.val, h⟩ : Fin 32)) (fun b hb => ?_) (Nat.zero_add _)).trans ?_
    · fin_cases b
      · rfl
      · exact absurd rfl hb
    · show extractStridedSlice ⟨2, ![n, 32]⟩ ![0, 0] x h0 (ix2 q (⟨d.val, h⟩ : Fin 32)) * c (ix2 q (⟨d.val, h⟩ : Fin 32))
        - extractStridedSlice ⟨2, ![n, 32]⟩ ![0, 32] x h32 (ix2 q (⟨d.val, h⟩ : Fin 32)) * s (ix2 q (⟨d.val, h⟩ : Fin 32)) = _
      rw [slice_cols x 32 0 h0 q ⟨d.val, h⟩ d (Nat.zero_add _).symm,
        slice_cols x 32 32 h32 q ⟨d.val, h⟩ ⟨d.val + 32, by omega⟩ (Nat.add_comm _ _)]
  · rw [dif_neg h]
    by_cases h' : d.val < 64
    · rw [dif_pos h']
      refine (concatenate_apply_piece 1 (rotList x c s h0 h32 h64) hc (ix2 q d) 1 (Nat.lt_of_sub_ne_zero (by exact Nat.succ_ne_zero _)) ⟨2, ![n, 32]⟩ _ rfl rfl 32 rfl
        (ix2 q (⟨d.val - 32, by omega⟩ : Fin 32)) (fun b hb => ?_) ?_).trans ?_
      · fin_cases b
        · rfl
        · exact absurd rfl hb
      · show 32 + (d.val - 32) = d.val
        omega
      · show extractStridedSlice ⟨2, ![n, 32]⟩ ![0, 32] x h32 (ix2 q (⟨d.val - 32, by omega⟩ : Fin 32))
            * c (ix2 q (⟨d.val - 32, by omega⟩ : Fin 32))
          + extractStridedSlice ⟨2, ![n, 32]⟩ ![0, 0] x h0 (ix2 q (⟨d.val - 32, by omega⟩ : Fin 32))
            * s (ix2 q (⟨d.val - 32, by omega⟩ : Fin 32)) = _
        rw [slice_cols x 32 32 h32 q ⟨d.val - 32, by omega⟩ d (by show d.val = 32 + (d.val - 32); omega),
          slice_cols x 32 0 h0 q ⟨d.val - 32, by omega⟩ ⟨d.val - 32, by omega⟩ (Nat.zero_add _).symm]
    · rw [dif_neg h']
      refine (concatenate_apply_piece 1 (rotList x c s h0 h32 h64) hc (ix2 q d) 2 (Nat.lt_of_sub_ne_zero (by exact Nat.succ_ne_zero _)) ⟨2, ![n, 64]⟩ _ rfl rfl 64 rfl
        (ix2 q (⟨d.val - 64, by omega⟩ : Fin 64)) (fun b hb => ?_) ?_).trans ?_
      · fin_cases b
        · rfl
        · exact absurd rfl hb
      · show 64 + (d.val - 64) = d.val
        omega
      · exact slice_cols x 64 64 h64 q ⟨d.val - 64, by omega⟩ d (by show d.val = 64 + (d.val - 64); omega)

end Cert.Proof

end

end
-- ==== Proof.KeyRotation.lean ====
/-
  The reference's rotations, read at an index: the keys' rows and the queries' heads are rotated rows.
-/
module

public import proofs.«01_k».proof.Proof.Gen.ReferenceIdeal.Read
public import proofs.«01_k».proof.Proof.Rotation
public import proofs.«01_k».proof.Proof.Cells

@[expose] public section

noncomputable section

namespace Cert.Proof

open Idealize.ShloMosaic Idealize.ShloMosaic.ValueIdx Cert.ReferenceIdeal Cert.ReferenceIdeal.Read

variable (x0 : (⟨S2048x1536, .f32⟩ : BufTy).Contents (Elt Ideal)) (x1 : (⟨S2048x2048, .f32⟩ : BufTy).Contents (Elt Ideal))
  (x2 : (⟨S2048, .i32⟩ : BufTy).Contents (Elt Ideal)) (x4 : (⟨S1536x2048, .f32⟩ : BufTy).Contents (Elt Ideal))
  (x5 : (⟨S2048x128, .f32⟩ : BufTy).Contents (Elt Ideal)) (x6 x7 : (⟨S128, .f32⟩ : BufTy).Contents (Elt Ideal))

/-- Two pieces of a row side by side: the left one, -/
theorem beside_left {n a b w : ℕ} (y : FVec Ideal ⟨2, ![n, a]⟩ .f32) (z : FVec Ideal ⟨2, ![n, b]⟩ .f32)
    (h : Shape.Concatenates [(⟨2, ![n, a]⟩ : Shape), ⟨2, ![n, b]⟩] ⟨2, ![n, w]⟩ 1) (r : Fin n) (d : Fin w) (e : Fin a)
    (hd : d.val = e.val) : concatenate ⟨2, ![n, w]⟩ 1 [⟨⟨2, ![n, a]⟩, y⟩, ⟨⟨2, ![n, b]⟩, z⟩] h (ix2 r d) = y (ix2 r e) :=
  concatenate_pair_apply_left 1 y z h (ix2 r d) rfl (ix2 r e) fun b => by
    fin_cases b
    · rfl
    · exact hd.symm

/-- and the right one. -/
theorem beside_right {n a b w : ℕ} (y : FVec Ideal ⟨2, ![n, a]⟩ .f32) (z : FVec Ideal ⟨2, ![n, b]⟩ .f32)
    (h : Shape.Concatenates [(⟨2, ![n, a]⟩ : Shape), ⟨2, ![n, b]⟩] ⟨2, ![n, w]⟩ 1) (r : Fin n) (d : Fin w) (e : Fin b)
    (hd : e.val + a = d.val) : concatenate ⟨2, ![n, w]⟩ 1 [⟨⟨2, ![n, a]⟩, y⟩, ⟨⟨2, ![n, b]⟩, z⟩] h (ix2 r d) = z (ix2 r e) :=
  concatenate_pair_apply_right 1 y z h (ix2 r d) rfl rfl (ix2 r e)
    (fun b hb => by
      fin_cases b
      · rfl
      · exact absurd rfl hb) hd

/-- The same over the heads of a row. -/
theorem beside_left3 {n m a b w : ℕ} (y : FVec Ideal ⟨3, ![n, m, a]⟩ .f32) (z : FVec Ideal ⟨3, ![n, m, b]⟩ .f32)
    (h : Shape.Concatenates [(⟨3, ![n, m, a]⟩ : Shape), ⟨3, ![n, m, b]⟩] ⟨3, ![n, m, w]⟩ 2) (r : Fin n) (g : Fin m) (d : Fin w)
    (e : Fin a) (hd : d.val = e.val) :
    concatenate ⟨3, ![n, m, w]⟩ 2 [⟨⟨3, ![n, m, a]⟩, y⟩, ⟨⟨3, ![n, m, b]⟩, z⟩] h (ix3 r g d) = y (ix3 r g e) :=
  concatenate_pair_apply_left 2 y z h (ix3 r g d) rfl (ix3 r g e) fun b => by
    fin_cases b
    · rfl
    · rfl
    · exact hd.symm

theorem beside_right3 {n m a b w : ℕ} (y : FVec Ideal ⟨3, ![n, m, a]⟩ .f32) (z : FVec Ideal ⟨3, ![n, m, b]⟩ .f32)
    (h : Shape.Concatenates [(⟨3, ![n, m, a]⟩ : Shape), ⟨3, ![n, m, b]⟩] ⟨3, ![n, m, w]⟩ 2) (r : Fin n) (g : Fin m) (d : Fin w)
    (e : Fin b) (hd : e.val + a = d.val) :
    concatenate ⟨3, ![n, m, w]⟩ 2 [⟨⟨3, ![n, m, a]⟩, y⟩, ⟨⟨3, ![n, m, b]⟩, z⟩] h (ix3 r g d) = z (ix3 r g e) :=
  concatenate_pair_apply_right 2 y z h (ix3 r g d) rfl rfl (ix3 r g e)
    (fun b hb => by
      fin_cases b
      · rfl
      · rfl
      · exact absurd rfl hb) hd

theorem key_first (r : Fin 2048) (e : Fin 32) (d : Fin 128) (hd : d.val = e.val) :
    val_main_v89 (F := Ideal) x1 x5 x6 x7 (ix2 r e) = val_main_v87 (F := Ideal) x1 x5 x6 x7 (ix2 r d) := by
  rw [val_main_v89_apply, val_main_v88_apply]
  refine congrArg _ (funext fun a => ?_)
  fin_cases a
  · rfl
  · exact Fin.ext hd.symm

theorem key_second (r : Fin 2048) (e : Fin 32) (d : Fin 128) (hd : d.val = 32 + e.val) :
    val_main_v90 (F := Ideal) x1 x5 x6 x7 (ix2 r e) = val_main_v87 (F := Ideal) x1 x5 x6 x7 (ix2 r d) := by
  rw [val_main_v90_apply, val_main_v88_apply]
  refine congrArg _ (funext fun a => ?_)
  fin_cases a
  · rfl
  · exact Fin.ext hd.symm

theorem key_last (r : Fin 2048) (e : Fin 64) (d : Fin 128) (hd : d.val = 64 + e.val) :
    val_main_v98 (F := Ideal) x1 x5 x6 x7 (ix2 r e) = val_main_v87 (F := Ideal) x1 x5 x6 x7 (ix2 r d) := by
  rw [val_main_v98_apply]
  refine congrArg _ (funext fun a => ?_)
  fin_cases a
  · rfl
  · exact Fin.ext hd.symm

/-- The reference's rotated keys. -/
theorem ref_keys_apply (r : Fin 2048) (d : Fin 128) :
    val_main_v99 (F := Ideal) x1 x2 x5 x6 x7 (ix2 r d)
      = rotAt (fun d => val_main_v87 (F := Ideal) x1 x5 x6 x7 (ix2 r d)) (fun e => val_main_v41 (F := Ideal) x2 (ix2 r e))
          (fun e => val_main_v42 (F := Ideal) x2 (ix2 r e)) d := by
  unfold rotAt val_main_v99
  by_cases h' : d.val < 64
  · refine (beside_left _ _ _ r d (⟨d.val, h'⟩ : Fin 64) rfl).trans ?_
    unfold val_main_v97
    by_cases h : d.val < 32
    · rw [dif_pos h]
      refine (beside_left _ _ _ r (⟨d.val, h'⟩ : Fin 64) (⟨d.val, h⟩ : Fin 32) rfl).trans ?_
      rw [val_main_v93_apply, val_main_v91_apply, val_main_v92_apply, key_first x1 x5 x6 x7 r ⟨d.val, h⟩ d rfl,
        key_second x1 x5 x6 x7 r ⟨d.val, h⟩ ⟨d.val + 32, by omega⟩ (Nat.add_comm _ _)]
      rfl
    · rw [dif_neg h, dif_pos h']
      refine (beside_right _ _ _ r (⟨d.val, h'⟩ : Fin 64) (⟨d.val - 32, by omega⟩ : Fin 32)
        (by show d.val - 32 + 32 = d.val; omega)).trans ?_
      rw [val_main_v96_apply, val_main_v94_apply, val_main_v95_apply,
        key_second x1 x5 x6 x7 r ⟨d.val - 32, by omega⟩ d (by show d.val = 32 + (d.val - 32); omega),
        key_first x1 x5 x6 x7 r ⟨d.val - 32, by omega⟩ ⟨d.val - 32, by omega⟩ rfl]
      rfl
  · rw [dif_neg (by omega), dif_neg h']
    refine (beside_right _ _ _ r d (⟨d.val - 64, by omega⟩ : Fin 64) (by show d.val - 64 + 64 = d.val; omega)).trans ?_
    exact key_last x1 x5 x6 x7 r ⟨d.val - 64, by omega⟩ d (by show d.val = 64 + (d.val - 64); omega)

theorem head_at (r : Fin 2048) (h : Fin 16) (d : Fin 128) :
    val_main_v44 (F := Ideal) x0 x4 (ix3 r h d) = val_main_v43 (F := Ideal) x0 x4 (ix2 r (headCol h d)) := by
  rw [val_main_v44_apply]
  refine congrArg _ (funext fun a => ?_)
  have := h.isLt
  have := d.isLt
  fin_cases a <;> apply Fin.ext
  · show ((r.val * 16 + h.val) * 128 + d.val) / 2048 = r.val
    omega
  · show ((r.val * 16 + h.val) * 128 + d.val) % 2048 = 128 * h.val + d.val
    omega

theorem query_first (r : Fin 2048) (h : Fin 16) (e : Fin 32) (d : Fin 128) (hd : d.val = e.val) :
    val_main_v48 (F := Ideal) x0 x4 (ix3 r h e) = val_main_v43 (F := Ideal) x0 x4 (ix2 r (headCol h d)) := by
  rw [val_main_v48_apply, val_main_v45_apply, ← head_at]
  refine congrArg _ (funext fun a => ?_)
  fin_cases a
  · rfl
  · rfl
  · exact Fin.ext hd.symm

theorem query_second (r : Fin 2048) (h : Fin 16) (e : Fin 32) (d : Fin 128) (hd : d.val = 32 + e.val) :
    val_main_v49 (F := Ideal) x0 x4 (ix3 r h e) = val_main_v43 (F := Ideal) x0 x4 (ix2 r (headCol h d)) := by
  rw [val_main_v49_apply, val_main_v45_apply, ← head_at]
  refine congrArg _ (funext fun a => ?_)
  fin_cases a
  · rfl
  · rfl
  · exact Fin.ext hd.symm

theorem query_last (r : Fin 2048) (h : Fin 16) (e : Fin 64) (d : Fin 128) (hd : d.val = 64 + e.val) :
    val_main_v61 (F := Ideal) x0 x4 (ix3 r h e) = val_main_v43 (F := Ideal) x0 x4 (ix2 r (headCol h d)) := by
  rw [val_main_v61_apply, ← head_at]
  refine congrArg _ (funext fun a => ?_)
  fin_cases a
  · rfl
  · rfl
  · exact Fin.ext hd.symm

theorem cos_at (r : Fin 2048) (e : Fin 32) (h : Fin 16) :
    val_main_v41 (F := Ideal) x2 (idx_main_v46 (idx_main_v50 (ix3 r h e))) = val_main_v41 (F := Ideal) x2 (ix2 r e) :=
  congrArg _ (funext fun a => by fin_cases a <;> rfl)

theorem sin_at (r : Fin 2048) (e : Fin 32) (h : Fin 16) :
    val_main_v42 (F := Ideal) x2 (idx_main_v47 (idx_main_v52 (ix3 r h e))) = val_main_v42 (F := Ideal) x2 (ix2 r e) :=
  congrArg _ (funext fun a => by fin_cases a <;> rfl)

/-- The reference's rotated queries. -/
theorem ref_queries_apply (r : Fin 2048) (h : Fin 16) (d : Fin 128) :
    val_main_v62 (F := Ideal) x0 x2 x4 (ix3 r h d)
      = rotAt (fun d => val_main_v43 (F := Ideal) x0 x4 (ix2 r (headCol h d)))
          (fun e => val_main_v41 (F := Ideal) x2 (ix2 r e)) (fun e => val_main_v42 (F := Ideal) x2 (ix2 r e)) d := by
  unfold rotAt val_main_v62
  by_cases h' : d.val < 64
  · refine (beside_left3 _ _ _ r h d (⟨d.val, h'⟩ : Fin 64) rfl).trans ?_
    unfold val_main_v60
    by_cases hs : d.val < 32
    · rw [dif_pos hs]
      refine (beside_left3 _ _ _ r h (⟨d.val, h'⟩ : Fin 64) (⟨d.val, hs⟩ : Fin 32) rfl).trans ?_
      rw [val_main_v54_apply, val_main_v51_apply, val_main_v53_apply, query_first x0 x4 r h ⟨d.val, hs⟩ d rfl,
        query_second x0 x4 r h ⟨d.val, hs⟩ ⟨d.val + 32, by omega⟩ (Nat.add_comm _ _), val_main_v50_apply, val_main_v46_apply,
        val_main_v52_apply, val_main_v47_apply, cos_at, sin_at]
      rfl
    · rw [dif_neg hs, dif_pos h']
      refine (beside_right3 _ _ _ r h (⟨d.val, h'⟩ : Fin 64) (⟨d.val - 32, by omega⟩ : Fin 32)
        (by show d.val - 32 + 32 = d.val; omega)).trans ?_
      rw [val_main_v59_apply, val_main_v56_apply, val_main_v58_apply,
        query_second x0 x4 r h ⟨d.val - 32, by omega⟩ d (by show d.val = 32 + (d.val - 32); omega),
        query_first x0 x4 r h ⟨d.val - 32, by omega⟩ ⟨d.val - 32, by omega⟩ rfl, val_main_v55_apply, val_main_v46_apply,
        val_main_v57_apply, val_main_v47_apply]
      refine (congrArg₂ (· + ·) (congrArg _ ?_) (congrArg _ ?_))
      · exact cos_at x2 r _ h
      · exact sin_at x2 r _ h
  · rw [dif_neg (by omega), dif_neg h']
    refine (beside_right3 _ _ _ r h d (⟨d.val - 64, by omega⟩ : Fin 64) (by show d.val - 64 + 64 = d.val; omega)).trans ?_
    exact query_last x0 x4 r h ⟨d.val - 64, by omega⟩ d (by show d.val = 64 + (d.val - 64); omega)

end Cert.Proof

end

end
-- ==== Proof.HostBefore.lean ====
/-
  The host operations before the first call compute what the reference computes: the cosines and sines, the normalized
  keys, and from the rotated keys the scales and the codes.
-/
module

public import proofs.«01_k».proof.Proof.Gen.KernelIdeal.Frame
public import proofs.«01_k».proof.Proof.Gen.ReferenceIdeal.Read
public import proofs.«01_k».proof.Proof.KeyRotation

@[expose] public section

noncomputable section

namespace Cert.Proof

open Idealize.ShloMosaic Idealize.ShloMosaic.StableHlo Cert.KernelIdeal Cert.KernelIdeal.Gen Cert.ReferenceIdeal.Read

/-- A line of operations is a first part and a rest. -/
theorem after_split {τ : Topo} {sig : RefSig} {Val : EltTy → Type} (n : ℕ) (ops : List (HloOp τ sig Val))
    (V : Valuation τ sig Val) : after ops V = after (ops.drop n) (after (ops.take n) V) := by
  induction n generalizing ops V with
  | zero => rfl
  | succ n ih =>
    cases ops with
    | nil => rfl
    | cons op ops => exact ih ops _

variable (V : Valuation τ sig (Elt Ideal))

/-- The table of the frequencies. -/
abbrev table : FVec Ideal S32 .f32 := fun i => FloatOps.ofBits (F := Ideal) .f32 (lit0 (S32.rowMajor i))

theorem table_eq : table = val_main_v34 (F := Ideal) := by
  funext i
  obtain ⟨e, rfl⟩ : ∃ e : Fin 32, i = ValueIdx.ix1 e := ⟨i 0, ValueIdx.eq_ix1 i⟩
  fin_cases e <;> rfl

/-- The angles, from the positions and the frequencies. -/
def anglesOf (p : (⟨S2048, .i32⟩ : BufTy).Contents (Elt Ideal)) (f : FVec Ideal S32 .f32) : FVec Ideal S2048x32 .f32 :=
  mulf (broadcastInDim S2048x32 ![0, 1] bcast_S2048x1_S2048x32_0_1
      (broadcastInDim S2048x1 ![0] bcast_S2048_S2048x1_0 (sitofp .f32 p)))
    (broadcastInDim S2048x32 ![0, 1] bcast_S1x32_S2048x32_0_1 (broadcastInDim S1x32 ![1] bcast_S32_S1x32_1 f))

theorem anglesOf_table (p : (⟨S2048, .i32⟩ : BufTy).Contents (Elt Ideal)) : anglesOf p table = val_main_v40 (F := Ideal) p :=
  (congrArg (anglesOf p) table_eq).trans rfl

/-- The operations up to the normalized keys, those that rotate the keys, and those that make the codes. -/
abbrev partNorm : List (HloOp τ sig (Elt Ideal)) := List.take 39 hostOps0
abbrev partRest : List (HloOp τ sig (Elt Ideal)) := List.drop 39 hostOps0
abbrev partRotate : List (HloOp τ sig (Elt Ideal)) := List.take 10 partRest
abbrev partCode : List (HloOp τ sig (Elt Ideal)) := List.drop 10 partRest

theorem norm_cos : after partNorm V (Proc.devRef .tc main_v6) = val_main_v41 (F := Ideal) (V (Proc.devRef .tc main_arg2)) := by
  have e : after partNorm V (Proc.devRef .tc main_v6) = Host.cos (anglesOf (V (Proc.devRef .tc main_arg2)) table) := by
    unfold partNorm hostOps0
    simp only [List.take_succ_cons, List.take_zero]
    after_results
    rfl
  rw [e, anglesOf_table]
  rfl

theorem norm_sin : after partNorm V (Proc.devRef .tc main_v7) = val_main_v42 (F := Ideal) (V (Proc.devRef .tc main_arg2)) := by
  have e : after partNorm V (Proc.devRef .tc main_v7) = Host.sin (anglesOf (V (Proc.devRef .tc main_arg2)) table) := by
    unfold partNorm hostOps0
    simp only [List.take_succ_cons, List.take_zero]
    after_results
    rfl
  rw [e, anglesOf_table]
  rfl

theorem norm_keys : after partNorm V (Proc.devRef .tc main_v32)
    = val_main_v87 (F := Ideal) (V (Proc.devRef .tc main_arg1)) (V (Proc.devRef .tc main_arg5)) (V (Proc.devRef .tc main_arg6))
        (V (Proc.devRef .tc main_arg7)) := by
  unfold partNorm hostOps0
  simp only [List.take_succ_cons, List.take_zero]
  after_results
  rfl

theorem rotate_keys : after partRotate V (Proc.devRef .tc main_v42)
    = rotPieces (n := 2048) (V (Proc.devRef .tc main_v32)) (V (Proc.devRef .tc main_v6)) (V (Proc.devRef .tc main_v7))
        slices_S2048x128_S2048x32_0_0 slices_S2048x128_S2048x32_0_32 slices_S2048x128_S2048x64_0_64
        concatenates_S2048x32_S2048x32_S2048x64_S2048x128_d1 := by
  unfold partRotate partRest hostOps0
  simp only [List.drop_succ_cons, List.drop_zero, List.take_succ_cons, List.take_zero]
  after_results
  rfl

/-- The scale of a row of keys. -/
def scaleOf (k : FVec Ideal S2048x128 .f32) : FVec Ideal S2048x1 .f32 :=
  Host.exp (mulf (broadcastInDim S2048x1 ![] bcast_S_S2048x1 (constant S_ .f32 0x3F317218#32))
    (Host.ceil (mulf (Host.log (Host.divf (maximumf (broadcastInDim S2048x1 ![0] bcast_S2048_S2048x1_0
          (Host.reduce FloatOps.maximumf (Host.absf k) (constant S_ .f32 0xFF800000#32) reducesTo_S2048x128_S2048_d1 h_S_))
        (broadcastInDim S2048x1 ![] bcast_S_S2048x1 (constant S_ .f32 0x38D1B717#32)))
      (broadcastInDim S2048x1 ![] bcast_S_S2048x1 (constant S_ .f32 0x43E00000#32))))
      (broadcastInDim S2048x1 ![] bcast_S_S2048x1 (constant S_ .f32 0x3FB8AA3B#32)))))

theorem code_scale : after partCode V (Proc.devRef .tc main_v56) = scaleOf (V (Proc.devRef .tc main_v42)) := by
  unfold partCode partRest hostOps0
  simp only [List.drop_succ_cons, List.drop_zero]
  after_results
  rfl

theorem code_codes : after partCode V (Proc.devRef .tc main_v58) = Host.divf (V (Proc.devRef .tc main_v42))
    (broadcastInDim S2048x128 ![0, 1] bcast_S2048x1_S2048x128_0_1 (scaleOf (V (Proc.devRef .tc main_v42)))) := by
  unfold partCode partRest hostOps0
  simp only [List.drop_succ_cons, List.drop_zero]
  after_results
  rfl

theorem split_before : after hostOps0 V = after partCode (after partRotate (after partNorm V)) :=
  (after_split 39 hostOps0 V).trans (after_split 10 partRest _)

/-- The rotated keys. -/
theorem rotated_keys : after partRotate (after partNorm V) (Proc.devRef .tc main_v42)
    = val_main_v99 (F := Ideal) (V (Proc.devRef .tc main_arg1)) (V (Proc.devRef .tc main_arg2)) (V (Proc.devRef .tc main_arg5))
        (V (Proc.devRef .tc main_arg6)) (V (Proc.devRef .tc main_arg7)) := by
  rw [rotate_keys, norm_keys, norm_cos, norm_sin]
  funext i
  obtain ⟨r, d, rfl⟩ : ∃ (r : Fin 2048) (d : Fin 128), i = ValueIdx.ix2 r d := ⟨i 0, i 1, ValueIdx.eq_ix2 i⟩
  exact (rotPieces_apply _ _ _ _ _ _ _ r d).trans (ref_keys_apply _ _ _ _ _ r d).symm

theorem before_scale : after hostOps0 V (Proc.devRef .tc main_v56)
    = val_main_v129 (F := Ideal) (V (Proc.devRef .tc main_arg1)) (V (Proc.devRef .tc main_arg2)) (V (Proc.devRef .tc main_arg5))
        (V (Proc.devRef .tc main_arg6)) (V (Proc.devRef .tc main_arg7)) := by
  rw [split_before, code_scale, rotated_keys]
  rfl

theorem before_codes : after hostOps0 V (Proc.devRef .tc main_v58)
    = val_main_v131 (F := Ideal) (V (Proc.devRef .tc main_arg1)) (V (Proc.devRef .tc main_arg2)) (V (Proc.devRef .tc main_arg5))
        (V (Proc.devRef .tc main_arg6)) (V (Proc.devRef .tc main_arg7)) := by
  rw [split_before, code_codes, rotated_keys]
  rfl

theorem before_cos : after hostOps0 V (Proc.devRef .tc main_v6) = val_main_v41 (F := Ideal) (V (Proc.devRef .tc main_arg2)) := by
  rw [after_split 39 hostOps0 V]
  refine Eq.trans ?_ (norm_cos V)
  generalize after partNorm V = U
  unfold hostOps0
  simp only [List.drop_succ_cons, List.drop_zero]
  after_results

theorem before_sin : after hostOps0 V (Proc.devRef .tc main_v7) = val_main_v42 (F := Ideal) (V (Proc.devRef .tc main_arg2)) := by
  rw [after_split 39 hostOps0 V]
  refine Eq.trans ?_ (norm_sin V)
  generalize after partNorm V = U
  unfold hostOps0
  simp only [List.drop_succ_cons, List.drop_zero]
  after_results

end Cert.Proof

end

end
-- ==== Proof.FirstCall.lean ====
/-
  What the first call leaves: the rotated queries and the raw weights.
-/
module

public import proofs.«01_k».proof.Proof.Gen.KernelIdeal.Frame
public import proofs.«01_k».proof.Proof.Rotation
public import proofs.«01_k».proof.Proof.Cells
public import Idealize.ShloMosaic.PureOps.Ideal.Laws
public import Idealize.ShloMosaic.Lib.Pipeline.ValueKit.Geometry
public import Idealize.ShloMosaic.Lib.Pipeline.ValueKit.Tiles

@[expose] public section

noncomputable section

namespace Cert.Proof

open Idealize.ShloMosaic Idealize.ShloMosaic.TcCoe Idealize.ShloMosaic.ValueIdx Idealize.ShloMosaic.Tactic Cert.KernelIdeal
  Cert.KernelIdeal.Gen
open scoped BigOperators

/-- The product of two matrices at an index. -/
theorem product_apply {m k n : ℕ} (d : DotDims ⟨2, ![m, k]⟩ ⟨2, ![k, n]⟩ ⟨2, ![m, n]⟩) (hr : d.contr.rank = 1)
    (hs : d.contr.size ⟨0, by omega⟩ = k) (prec : Option ContractPrecision) (x : FVec Ideal ⟨2, ![m, k]⟩ .f32)
    (y : FVec Ideal ⟨2, ![k, n]⟩ .f32) (i : Fin m) (j : Fin n)
    (hl : ∀ e : Fin k, d.lhsIdx (ix2 i j) ((contrEquiv1 d k hr hs).symm e) = ix2 i e)
    (hr' : ∀ e : Fin k, d.rhsIdx (ix2 i j) ((contrEquiv1 d k hr hs).symm e) = ix2 e j) :
    matmul d prec x y (constant ⟨2, ![m, n]⟩ .f32 0x00000000#32) (ix2 i j) = ∑ e : Fin k, x (ix2 i e) * y (ix2 e j) := by
  show FloatOps.matmul d prec x y (constant ⟨2, ![m, n]⟩ .f32 0x00000000#32) (ix2 i j) = _
  rw [Ideal.matmul_constant_zero_apply, ← Equiv.sum_comp (contrEquiv1 d k hr hs).symm]
  exact Finset.sum_congr rfl fun e _ => by rw [hl, hr']

variable (x0 : FVec Ideal S256x1536 .f32) (x1 : FVec Ideal S1536x2048 .f32) (x2 : FVec Ideal S256x2048 .f32)
  (x3 : FVec Ideal S2048x16 .f32) (x4 x5 : FVec Ideal S256x32 .f32)

theorem slices_head (h : Fin 16) : S256x2048.Slices ![0, 128 * h.val] S256x128 := by
  revert h
  decide

/-- A head of a block, rotated. -/
def headPart (h : Fin 16) : FVec Ideal S256x128 .f32 :=
  rotPieces (n := 256) (extractStridedSlice S256x128 ![0, 128 * h.val]
      (matmul dot_S256x1536_S1536x2048_S256x2048_1_0_0_1_n_n none x0 x1 (constant S256x2048 .f32 0x00000000#32)) (slices_head h))
    (shapeCast S256x32 x4 shapeCasts_S256x32_S256x32) (shapeCast S256x32 x5 shapeCasts_S256x32_S256x32)
    slices_S256x128_o0_0_S256x32 slices_S256x128_o0_32_S256x32 slices_S256x128_o0_64_S256x64
    concatenates_S256x32_S256x32_S256x64_S256x128_d1

theorem heads_fit : Shape.Concatenates
    ((List.ofFn fun h : Fin 16 => (⟨S256x128, headPart x0 x1 x4 x5 h⟩ : (s : Shape) × (s.Idx → EReal))).map (·.1)) S256x2048 1 :=
  concatenates_S256x128_S256x128_S256x128_S256x128_S256x128_S256x128_S256x128_S256x128_S256x128_S256x128_S256x128_S256x128_S256x128_S256x128_S256x128_S256x128_S256x2048_d1

theorem out_queries : out0_6 (F := Ideal) x0 x1 x2 x3 x4 x5 = concatenate S256x2048 1
    (List.ofFn fun h : Fin 16 => (⟨S256x128, headPart x0 x1 x4 x5 h⟩ : (s : Shape) × (s.Idx → EReal))) (heads_fit x0 x1 x4 x5) := by
  unfold out0_6 k0_pay43 k0_pay42 k0_pay41 k0_pay40 k0_pay39 k0_pay38
  have e0 : View.ld (Val := Elt Ideal) (e' := .f32) x0 r0_0 = x0 := View.ld_unit_lit (Val := Elt Ideal) (e := .f32) (S := S256x1536) _ x0 (fun a => by fin_cases a <;> rfl)
  have e1 : View.ld (Val := Elt Ideal) (e' := .f32) x1 r0_1 = x1 := View.ld_unit_lit (Val := Elt Ideal) (e := .f32) (S := S1536x2048) _ x1 (fun a => by fin_cases a <;> rfl)
  have e4 : View.ld (Val := Elt Ideal) (e' := .f32) x4 r0_2 = x4 := View.ld_unit_lit (Val := Elt Ideal) (e := .f32) (S := S256x32) _ x4 (fun a => by fin_cases a <;> rfl)
  have e5 : View.ld (Val := Elt Ideal) (e' := .f32) x5 r0_2 = x5 := View.ld_unit_lit (Val := Elt Ideal) (e := .f32) (S := S256x32) _ x5 (fun a => by fin_cases a <;> rfl)
  rw [e0, e1, e4, e5]
  refine (View.canon_cons_unit_lit (S := S256x2048) _ _ [] (fun a => by fin_cases a <;> rfl)).trans ?_
  rfl

theorem out_weights : out0_7 (F := Ideal) x0 x1 x2 x3 x4 x5
    = matmul dot_S256x2048_S2048x16_S256x16_1_0_0_1_n_n none x2 x3 (constant S256x16 .f32 0x00000000#32) := by
  unfold out0_7
  have e2 : View.ld (Val := Elt Ideal) (e' := .f32) x2 r0_3 = x2 := View.ld_unit_lit (Val := Elt Ideal) (e := .f32) (S := S256x2048) _ x2 (fun a => by fin_cases a <;> rfl)
  have e3 : View.ld (Val := Elt Ideal) (e' := .f32) x3 r0_4 = x3 := View.ld_unit_lit (Val := Elt Ideal) (e := .f32) (S := S2048x16) _ x3 (fun a => by fin_cases a <;> rfl)
  rw [e2, e3]
  exact View.canon_cons_unit_lit (S := S256x16) _ _ [] (fun a => by fin_cases a <;> rfl)

theorem out_queries_apply (q : Fin 256) (h : Fin 16) (d : Fin 128) :
    out0_6 (F := Ideal) x0 x1 x2 x3 x4 x5 (ix2 q (headCol h d))
      = rotAt (fun d => ∑ e : Fin 1536, x0 (ix2 q e) * x1 (ix2 e (headCol h d))) (fun e => x4 (ix2 q e)) (fun e => x5 (ix2 q e))
          d := by
  rw [out_queries]
  refine (concatenate_ofFn_apply 1 (fun h => headPart x0 x1 x4 x5 h) (heads_fit x0 x1 x4 x5) rfl 128 rfl (ix2 q (headCol h d)) h
    ?_ (ix2 q d) ?_ fun b hb => ?_).trans ?_
  · show (128 * h.val + d.val) / 128 = h.val
    omega
  · show d.val = (128 * h.val + d.val) % 128
    omega
  · fin_cases b
    · rfl
    · exact absurd rfl hb
  · unfold headPart
    rw [rotPieces_apply]
    refine congrArg₂ (fun f g => rotAt f g _ d) (funext fun d => ?_) (funext fun e => ?_) |>.trans
      (congrArg (fun g => rotAt _ _ g d) (funext fun e => ?_))
    · refine (extractStridedSlice_apply _ _ _ _ (ix2 q (headCol h d)) fun a => ?_).trans ?_
      · fin_cases a
        · exact (Nat.zero_add _).symm
        · rfl
      · refine product_apply _ rfl rfl none x0 x1 q (headCol h d) (fun e => ?_) (fun e => ?_) <;>
          (funext a; fin_cases a <;> rfl)
    · exact congrFun (shapeCast_self x4 _) _
    · exact congrFun (shapeCast_self x5 _) _

theorem out_weights_apply (q : Fin 256) (h : Fin 16) :
    out0_7 (F := Ideal) x0 x1 x2 x3 x4 x5 (ix2 q h) = ∑ e : Fin 2048, x2 (ix2 q e) * x3 (ix2 e h) := by
  rw [out_weights]
  refine product_apply _ rfl rfl none x2 x3 q h (fun e => ?_) (fun e => ?_) <;>
    (funext a; fin_cases a <;> rfl)

/-- The rotated queries, from the call's arrays. -/
def queryArr (a0 : FVec Ideal S2048x1536 .f32) (a4 : FVec Ideal S1536x2048 .f32) (cs sn : FVec Ideal S2048x32 .f32) :
    FVec Ideal S2048x2048 .f32 := fun i =>
  rotAt (fun d => ∑ e : Fin 1536, a0 (ix2 (n0 := 2048) (i 0) e) * a4 (ix2 e (headCol ⟨(i 1).val / 128, by
      have : (i 1).val < 2048 := (i 1).isLt
      omega⟩ d)))
    (fun e => cs (ix2 (n0 := 2048) (i 0) e)) (fun e => sn (ix2 (n0 := 2048) (i 0) e)) ⟨(i 1).val % 128, Nat.mod_lt _ (by decide)⟩

/-- The raw weights, from the call's arrays. -/
def weightArr (a1 : FVec Ideal S2048x2048 .f32) (a8 : FVec Ideal S2048x16 .f32) : FVec Ideal S2048x16 .f32 := fun i =>
  ∑ e : Fin 2048, a1 (ix2 (n0 := 2048) (i 0) e) * a8 (ix2 (n1 := 16) e (i 1))

theorem queryArr_apply (a0 : FVec Ideal S2048x1536 .f32) (a4 : FVec Ideal S1536x2048 .f32) (cs sn : FVec Ideal S2048x32 .f32)
    (r : Fin 2048) (h : Fin 16) (d : Fin 128) : queryArr a0 a4 cs sn (ix2 r (headCol h d))
      = rotAt (fun d => ∑ e : Fin 1536, a0 (ix2 r e) * a4 (ix2 e (headCol h d))) (fun e => cs (ix2 r e)) (fun e => sn (ix2 r e)) d := by
  have e1 : (⟨(headCol h d).val / 128, by have := (headCol h d).isLt; omega⟩ : Fin 16) = h :=
    Fin.ext (by show (128 * h.val + d.val) / 128 = h.val; omega)
  have e2 : (⟨(headCol h d).val % 128, Nat.mod_lt _ (by decide)⟩ : Fin 128) = d :=
    Fin.ext (by show (128 * h.val + d.val) % 128 = d.val; omega)
  exact congrArg₂ (fun (g : Fin 16) (k : Fin 128) =>
    rotAt (fun d => ∑ e : Fin 1536, a0 (ix2 r e) * a4 (ix2 e (headCol g d))) (fun e => cs (ix2 r e)) (fun e => sn (ix2 r e)) k) e1 e2

theorem first_row : ∀ t : Fin cfg0.N, t.val < 8 := by decide +kernel

/-- The row of the arrays that row `q` of a block is. -/
def firstRow (t : Fin cfg0.N) (q : Fin 256) : Fin 2048 := ⟨t.val * 256 + q.val, by
  have := first_row t
  omega⟩

theorem firstRow_val (t : Fin cfg0.N) (q : Fin 256) : (firstRow t q).val = t.val * 256 + q.val := rfl

theorem first_index0 : ∀ t : Fin cfg0.N, win0_0.index t = ![t.val, 0] := (by decide +kernel : ∀ t : Fin grid0.N, _)
theorem first_index1 : ∀ t : Fin cfg0.N, win0_1.index t = ![0, 0] := (by decide +kernel : ∀ t : Fin grid0.N, _)
theorem first_index2 : ∀ t : Fin cfg0.N, win0_2.index t = ![t.val, 0] := (by decide +kernel : ∀ t : Fin grid0.N, _)
theorem first_index3 : ∀ t : Fin cfg0.N, win0_3.index t = ![0, 0] := (by decide +kernel : ∀ t : Fin grid0.N, _)
theorem first_index4 : ∀ t : Fin cfg0.N, win0_4.index t = ![t.val, 0] := (by decide +kernel : ∀ t : Fin grid0.N, _)
theorem first_index5 : ∀ t : Fin cfg0.N, win0_5.index t = ![t.val, 0] := (by decide +kernel : ∀ t : Fin grid0.N, _)
theorem first_index6 : ∀ t : Fin cfg0.N, win0_6.index t = ![t.val, 0] := (by decide +kernel : ∀ t : Fin grid0.N, _)
theorem first_index7 : ∀ t : Fin cfg0.N, win0_7.index t = ![t.val, 0] := (by decide +kernel : ∀ t : Fin grid0.N, _)

variable (V : (c : Dev nD) → (b : Ref sig .tc) → Buf (Elt Ideal) ((c : Thread nD τ).loc b)) (c : Dev nD)

theorem block0 (t : Fin cfg0.N) (q : Fin 256) (e : Fin 1536) :
    (iblk0 V c 0 t : FVec Ideal S256x1536 .f32) (ix2 q e) = (V c main_arg0 : FVec Ideal S2048x1536 .f32) (ix2 (firstRow t q) e) := by
  show V c main_arg0 _ = _
  congr 1
  blk_ext [first_index0, firstRow_val]

theorem block1 (t : Fin cfg0.N) (e : Fin 1536) (j : Fin 2048) :
    (iblk0 V c 1 t : FVec Ideal S1536x2048 .f32) (ix2 e j) = (V c main_arg4 : FVec Ideal S1536x2048 .f32) (ix2 e j) := by
  show V c main_arg4 _ = _
  congr 1
  blk_ext [first_index1]

theorem block2 (t : Fin cfg0.N) (q : Fin 256) (e : Fin 2048) :
    (iblk0 V c 2 t : FVec Ideal S256x2048 .f32) (ix2 q e) = (V c main_arg1 : FVec Ideal S2048x2048 .f32) (ix2 (firstRow t q) e) := by
  show V c main_arg1 _ = _
  congr 1
  blk_ext [first_index2, firstRow_val]

theorem block3 (t : Fin cfg0.N) (e : Fin 2048) (j : Fin 16) :
    (iblk0 V c 3 t : FVec Ideal S2048x16 .f32) (ix2 e j) = (V c main_arg8 : FVec Ideal S2048x16 .f32) (ix2 e j) := by
  show V c main_arg8 _ = _
  congr 1
  blk_ext [first_index3]

theorem block4 (t : Fin cfg0.N) (q : Fin 256) (e : Fin 32) :
    (iblk0 V c 4 t : FVec Ideal S256x32 .f32) (ix2 q e) = (V c main_v6 : FVec Ideal S2048x32 .f32) (ix2 (firstRow t q) e) := by
  show V c main_v6 _ = _
  congr 1
  blk_ext [first_index4, firstRow_val]

theorem block5 (t : Fin cfg0.N) (q : Fin 256) (e : Fin 32) :
    (iblk0 V c 5 t : FVec Ideal S256x32 .f32) (ix2 q e) = (V c main_v7 : FVec Ideal S2048x32 .f32) (ix2 (firstRow t q) e) := by
  show V c main_v7 _ = _
  congr 1
  blk_ext [first_index5, firstRow_val]

theorem first_queries_at (t : Fin cfg0.N) (q : Fin 256) (j : Fin 2048) :
    out0_6 (F := Ideal) (iblk0 V c 0 t) (iblk0 V c 1 t) (iblk0 V c 2 t) (iblk0 V c 3 t) (iblk0 V c 4 t) (iblk0 V c 5 t) (ix2 q j)
      = queryArr (V c main_arg0) (V c main_arg4) (V c main_v6) (V c main_v7) (ix2 (firstRow t q) j) := by
  obtain ⟨h, d, rfl⟩ : ∃ (h : Fin 16) (d : Fin 128), j = headCol h d :=
    ⟨⟨j.val / 128, by omega⟩, ⟨j.val % 128, Nat.mod_lt _ (by decide)⟩, Fin.ext (by
      show j.val = 128 * (j.val / 128) + j.val % 128
      omega)⟩
  rw [queryArr_apply]
  refine (out_queries_apply _ _ _ _ _ _ q h d).trans ?_
  simp only [block0, block1, block4, block5]

theorem first_weights_at (t : Fin cfg0.N) (q : Fin 256) (h : Fin 16) :
    out0_7 (F := Ideal) (iblk0 V c 0 t) (iblk0 V c 1 t) (iblk0 V c 2 t) (iblk0 V c 3 t) (iblk0 V c 4 t) (iblk0 V c 5 t) (ix2 q h)
      = weightArr (V c main_arg1) (V c main_arg8) (ix2 (firstRow t q) h) := by
  refine (out_weights_apply _ _ _ _ _ _ q h).trans ?_
  simp only [block2, block3]
  rfl

theorem first_queries :
    (dat0 V c).arrAt 6 cfg0.N = queryArr (V c main_arg0) (V c main_arg4) (V c main_v6) (V c main_v7) := by
  refine (dat0 V c).arrAt_eq_of_covers 6 _ (by decide +kernel) fun t hf y => ?_
  blk_simp
  rw [after0_6]
  have hy : (win0_6.blk t).view.emb y = ix2 (firstRow t (y 0)) (y 1) := by
    blk_ext [first_index6, firstRow_val]
    rfl
  exact (congrArg _ (eq_ix2 y)).trans ((first_queries_at V c t (y 0) (y 1)).trans (congrArg _ hy.symm))

theorem first_weights : (dat0 V c).arrAt 7 cfg0.N = weightArr (V c main_arg1) (V c main_arg8) := by
  refine (dat0 V c).arrAt_eq_of_covers 7 _ (by decide +kernel) fun t hf y => ?_
  blk_simp
  rw [after0_7]
  have hy : (win0_7.blk t).view.emb y = ix2 (firstRow t (y 0)) (y 1) := by
    blk_ext [first_index7, firstRow_val]
    rfl
  exact (congrArg _ (eq_ix2 y)).trans ((first_weights_at V c t (y 0) (y 1)).trans (congrArg _ hy.symm))

end Cert.Proof

end

end
-- ==== Proof.HostBetween.lean ====
/-
  The host operations between the two calls: from the rotated queries their scales' inverses, and from the raw weights the
  weights.
-/
module

public import proofs.«01_k».proof.Proof.HostBefore
public import proofs.«01_k».proof.Proof.FirstCall

@[expose] public section

noncomputable section

namespace Cert.Proof

open Idealize.ShloMosaic Idealize.ShloMosaic.TcCoe Idealize.ShloMosaic.ValueIdx Idealize.ShloMosaic.StableHlo Cert.KernelIdeal
  Cert.KernelIdeal.Gen Cert.ReferenceIdeal.Read
open scoped BigOperators

/-- The largest magnitude of every head of every row. -/
def headMax (q : FVec Ideal S2048x16x128 .f32) : FVec Ideal S2048x16 .f32 :=
  Host.reduce FloatOps.maximumf (Host.absf q) (constant S_ .f32 0xFF800000#32) reducesTo_S2048x16x128_S2048x16_d2 h_S_

/-- The scales, from the largest magnitudes. -/
def scalesOf (M : FVec Ideal S2048x16 .f32) : FVec Ideal S2048x16 .f32 :=
  Host.exp (mulf (broadcastInDim S2048x16 ![] bcast_S_S2048x16 (constant S_ .f32 0x3F317218#32))
    (Host.ceil (mulf (Host.log (Host.divf (maximumf M
        (broadcastInDim S2048x16 ![] bcast_S_S2048x16 (constant S_ .f32 0x38D1B717#32)))
      (broadcastInDim S2048x16 ![] bcast_S_S2048x16 (constant S_ .f32 0x43E00000#32))))
      (broadcastInDim S2048x16 ![] bcast_S_S2048x16 (constant S_ .f32 0x3FB8AA3B#32)))))

theorem scalesOf_apply (M : FVec Ideal S2048x16 .f32) (i : S2048x16.Idx) : scalesOf M i
    = FloatOps.hostUnary .exp (FloatOps.mulf (FloatOps.ofBits .f32 0x3F317218#32) (FloatOps.hostUnary .ceil (FloatOps.mulf
        (FloatOps.hostUnary .log (FloatOps.hostDivf (FloatOps.maximumf (M i) (FloatOps.ofBits .f32 0x38D1B717#32))
          (FloatOps.ofBits .f32 0x43E00000#32))) (FloatOps.ofBits .f32 0x3FB8AA3B#32)))) := rfl

/-- The scales of the heads of every row. -/
def headScales (q : FVec Ideal S2048x16x128 .f32) : FVec Ideal S2048x16 .f32 := scalesOf (headMax q)

/-- The queries by heads. -/
abbrev byHeads (q : FVec Ideal S2048x2048 .f32) : FVec Ideal S2048x16x128 .f32 :=
  shapeCast S2048x16x128 q shapeCasts_S2048x2048_S2048x16x128

section
variable (V : Valuation τ sig (Elt Ideal))

theorem between_inverse : after hostOps1 V (Proc.devRef .tc main_v75)
    = Host.divf (broadcastInDim S2048x16 ![] bcast_S_S2048x16 (constant S_ .f32 0x3F800000#32))
        (headScales (byHeads (V (Proc.devRef .tc main_v59_0)))) := by
  unfold hostOps1
  after_results
  rfl

theorem between_weights : after hostOps1 V (Proc.devRef .tc main_v80)
    = mulf (mulf (mulf (V (Proc.devRef .tc main_v59_1)) (headScales (byHeads (V (Proc.devRef .tc main_v59_0)))))
        (broadcastInDim S2048x16 ![] bcast_S_S2048x16 (constant S_ .f32 0x3DB504F3#32)))
        (broadcastInDim S2048x16 ![] bcast_S_S2048x16 (constant S_ .f32 0x3E800000#32)) := by
  unfold hostOps1
  after_results
  rfl
end

variable (x0 : (⟨S2048x1536, .f32⟩ : BufTy).Contents (Elt Ideal)) (x1 : (⟨S2048x2048, .f32⟩ : BufTy).Contents (Elt Ideal))
  (x2 : (⟨S2048, .i32⟩ : BufTy).Contents (Elt Ideal)) (x4 : (⟨S1536x2048, .f32⟩ : BufTy).Contents (Elt Ideal))
  (x8 : (⟨S2048x16, .f32⟩ : BufTy).Contents (Elt Ideal))

/-- The first call's queries are the reference's. -/
theorem queryArr_ref (r : Fin 2048) (h : Fin 16) (d : Fin 128) :
    queryArr x0 x4 (val_main_v41 (F := Ideal) x2) (val_main_v42 (F := Ideal) x2) (ix2 r (headCol h d))
      = val_main_v62 (F := Ideal) x0 x2 x4 (ix3 r h d) := by
  rw [queryArr_apply, ref_queries_apply]
  refine congrArg (fun f => rotAt f _ _ d) (funext fun d => ?_)
  rw [val_main_v43_apply]
  refine Finset.sum_congr rfl fun e _ => congrArg₂ (· * ·) (congrArg x0 ?_) (congrArg x4 ?_) <;>
    (funext a; fin_cases a <;> rfl)

theorem byHeads_ref : byHeads (queryArr x0 x4 (val_main_v41 (F := Ideal) x2) (val_main_v42 (F := Ideal) x2))
    = val_main_v62 (F := Ideal) x0 x2 x4 := by
  funext i
  obtain ⟨r, h, d, rfl⟩ : ∃ (r : Fin 2048) (h : Fin 16) (d : Fin 128), i = ix3 r h d := ⟨i 0, i 1, i 2, eq_ix3 i⟩
  rw [← queryArr_ref]
  have e : idx_main_v44 (ix3 r h d) = ix2 r (headCol h d) := by
    funext a
    have := h.isLt
    have := d.isLt
    fin_cases a <;> apply Fin.ext
    · show ((r.val * 16 + h.val) * 128 + d.val) / 2048 = r.val
      omega
    · show ((r.val * 16 + h.val) * 128 + d.val) % 2048 = 128 * h.val + d.val
      omega
  rw [← e]
  generalize queryArr x0 x4 (val_main_v41 (F := Ideal) x2) (val_main_v42 (F := Ideal) x2) = y
  exact shapeCast_apply y shapeCasts_S2048x2048_S2048x16x128 (ix3 r h d) (idx_main_v44 (ix3 r h d)) (by
    rewrite [Shape.rowMajor_val_two, Shape.rowMajor_val_three]
    have := r.isLt
    have := h.isLt
    have := d.isLt
    show ((r.val * 16 + h.val) * 128 + d.val) / 2048 * 2048 + ((r.val * 16 + h.val) * 128 + d.val) % 2048
      = (r.val * 16 + h.val) * 128 + d.val
    omega)

theorem headMax_ref : headMax (val_main_v62 (F := Ideal) x0 x2 x4) = val_main_v101 (F := Ideal) x0 x2 x4 := by
  unfold headMax val_main_v101 val_main_v100 val_main_cst_36
  generalize val_main_v62 (F := Ideal) x0 x2 x4 = q
  rfl

/-- The scales are the reference's. -/
theorem headScales_ref (r : Fin 2048) (h : Fin 16) :
    headScales (val_main_v62 (F := Ideal) x0 x2 x4) (ix2 r h) = val_main_v113 (F := Ideal) x0 x2 x4 (ix3 r h (0 : Fin 1)) := by
  have e : val_main_v102 (F := Ideal) x0 x2 x4 (ix3 r h (0 : Fin 1)) = val_main_v101 (F := Ideal) x0 x2 x4 (ix2 r h) := by
    rw [val_main_v102_apply]
    generalize val_main_v101 (F := Ideal) x0 x2 x4 = y
    exact congrArg y (funext fun a => by fin_cases a <;> rfl)
  rw [val_main_v113_apply, val_main_v112_apply, val_main_v110_apply, val_main_v109_apply, val_main_v107_apply, val_main_v106_apply,
    val_main_v104_apply, e, val_main_v111_apply, val_main_v108_apply, val_main_v105_apply, val_main_v103_apply,
    val_main_cst_37_apply, val_main_cst_38_apply, val_main_cst_39_apply, val_main_cst_40_apply]
  unfold headScales
  rw [scalesOf_apply, headMax_ref]

/-- The first call's raw weights are the reference's. -/
theorem weightArr_ref : weightArr x1 x8 = val_main_v132 (F := Ideal) x1 x8 := by
  funext i
  rw [val_main_v132_apply]
  refine Finset.sum_congr rfl fun e _ => congrArg₂ (· * ·) (congrArg x1 ?_) (congrArg x8 ?_) <;>
    (funext a; fin_cases a <;> rfl)

theorem scale_place (r : Fin 2048) (h : Fin 16) : idx_main_v133 (ix2 r h) = ix3 r h (0 : Fin 1) := by
  funext a
  have := h.isLt
  fin_cases a
  · exact Fin.ext (by show (r.val * 16 + h.val) / 16 = r.val; omega)
  · exact Fin.ext (by show (r.val * 16 + h.val) / 1 % 16 = h.val; omega)
  · rfl

variable (m : (ℓ : Loc nD τ sig) → Buf (Elt Ideal) ℓ) (ρ : Dev nD → PrngReg) (c : Dev nD)

/-- The kernel's arguments. -/
abbrev arg0 : (⟨S2048x1536, .f32⟩ : BufTy).Contents (Elt Ideal) := m ((c : Thread nD τ).loc main_arg0)
abbrev arg1 : (⟨S2048x2048, .f32⟩ : BufTy).Contents (Elt Ideal) := m ((c : Thread nD τ).loc main_arg1)
abbrev arg2 : (⟨S2048, .i32⟩ : BufTy).Contents (Elt Ideal) := m ((c : Thread nD τ).loc main_arg2)
abbrev arg4 : (⟨S1536x2048, .f32⟩ : BufTy).Contents (Elt Ideal) := m ((c : Thread nD τ).loc main_arg4)
abbrev arg5 : (⟨S2048x128, .f32⟩ : BufTy).Contents (Elt Ideal) := m ((c : Thread nD τ).loc main_arg5)
abbrev arg6 : (⟨S128, .f32⟩ : BufTy).Contents (Elt Ideal) := m ((c : Thread nD τ).loc main_arg6)
abbrev arg7 : (⟨S128, .f32⟩ : BufTy).Contents (Elt Ideal) := m ((c : Thread nD τ).loc main_arg7)
abbrev arg8 : (⟨S2048x16, .f32⟩ : BufTy).Contents (Elt Ideal) := m ((c : Thread nD τ).loc main_arg8)

theorem at_queries : W2 m ρ c (Proc.devRef .tc main_v59_0)
    = queryArr (arg0 m c) (arg4 m c) (val_main_v41 (F := Ideal) (arg2 m c)) (val_main_v42 (F := Ideal) (arg2 m c)) := by
  refine (W2_arr m ρ c 6).trans ((first_queries (V1 m ρ) c).trans ?_)
  have e0 : V1 m ρ c main_arg0 = arg0 m c := W1_args m ρ c main_arg0 (by decide)
  have e4 : V1 m ρ c main_arg4 = arg4 m c := W1_args m ρ c main_arg4 (by decide)
  have e6 : V1 m ρ c main_v6 = val_main_v41 (F := Ideal) (arg2 m c) := before_cos (W0 m ρ c)
  have e7 : V1 m ρ c main_v7 = val_main_v42 (F := Ideal) (arg2 m c) := before_sin (W0 m ρ c)
  rw [e0, e4, e6, e7]

theorem at_rawWeights : W2 m ρ c (Proc.devRef .tc main_v59_1) = val_main_v132 (F := Ideal) (arg1 m c) (arg8 m c) := by
  refine (W2_arr m ρ c 7).trans ((first_weights (V1 m ρ) c).trans ?_)
  have e1 : V1 m ρ c main_arg1 = arg1 m c := W1_args m ρ c main_arg1 (by decide)
  have e8 : V1 m ρ c main_arg8 = arg8 m c := W1_args m ρ c main_arg8 (by decide)
  rw [e1, e8, weightArr_ref]

/-- What the second call reads: the queries, -/
theorem second_queries (r : Fin 2048) (h : Fin 16) (d : Fin 128) :
    (V3 m ρ c main_v59_0 : FVec Ideal S2048x2048 .f32) (ix2 r (headCol h d))
      = val_main_v62 (F := Ideal) (arg0 m c) (arg2 m c) (arg4 m c) (ix3 r h d) := by
  have e : V3 m ρ c main_v59_0 = _ := (W3_of m ρ c main_v59_0 (by decide)).trans (at_queries m ρ c)
  rw [e, queryArr_ref]

/-- the keys' codes and scales, -/
theorem second_codes : V3 m ρ c main_v58
    = val_main_v131 (F := Ideal) (arg1 m c) (arg2 m c) (arg5 m c) (arg6 m c) (arg7 m c) :=
  (W3_of m ρ c main_v58 (by decide)).trans ((W2_of m ρ c main_v58 (by decide)).trans (before_codes (W0 m ρ c)))

theorem second_scales : V3 m ρ c main_v56
    = val_main_v129 (F := Ideal) (arg1 m c) (arg2 m c) (arg5 m c) (arg6 m c) (arg7 m c) :=
  (W3_of m ρ c main_v56 (by decide)).trans ((W2_of m ρ c main_v56 (by decide)).trans (before_scale (W0 m ρ c)))

/-- the inverses of the queries' scales, -/
theorem second_inverse (r : Fin 2048) (h : Fin 16) :
    (V3 m ρ c main_v75 : FVec Ideal S2048x16 .f32) (ix2 r h)
      = Ideal.div (FloatOps.ofBits (F := Ideal) .f32 0x3F800000#32)
          (val_main_v113 (F := Ideal) (arg0 m c) (arg2 m c) (arg4 m c) (ix3 r h (0 : Fin 1))) := by
  have e : V3 m ρ c main_v75 = _ := between_inverse (W2 m ρ c)
  rw [e, at_queries, byHeads_ref, ← headScales_ref]
  generalize headScales (val_main_v62 (F := Ideal) (arg0 m c) (arg2 m c) (arg4 m c)) = y
  rfl

/-- and the weights. -/
theorem second_weights : V3 m ρ c main_v80
    = val_main_v138 (F := Ideal) (arg0 m c) (arg1 m c) (arg2 m c) (arg4 m c) (arg8 m c) := by
  have e : V3 m ρ c main_v80 = _ := between_weights (W2 m ρ c)
  rw [e, at_queries, byHeads_ref, at_rawWeights]
  funext i
  obtain ⟨r, h, rfl⟩ : ∃ (r : Fin 2048) (h : Fin 16), i = ix2 r h := ⟨i 0, i 1, eq_ix2 i⟩
  rw [val_main_v138_apply, val_main_v136_apply, val_main_v134_apply, val_main_v133_apply, scale_place, ← headScales_ref]
  generalize headScales (val_main_v62 (F := Ideal) (arg0 m c) (arg2 m c) (arg4 m c)) = y
  generalize val_main_v132 (F := Ideal) (arg1 m c) (arg8 m c) = w
  rfl

end Cert.Proof

end

end
-- ==== Proof.Top.lean ====
/-
  The network against the stable sort: the entries that the network sorts downwards are the entries at the positions that a
  stable sort by the greater value visits, as long as no unmasked value is `⊥`.
-/
module

public import proofs.«01_k».proof.Proof.Cells
public import Idealize.ShloMosaic.Lib.SortFacts
public import Idealize.ShloMosaic.Lib.SortNet.TopList

@[expose] public section

noncomputable section

namespace Cert.Proof

open Idealize.ShloMosaic Idealize.ShloMosaic.ValueIdx Idealize.ShloMosaic.SortNet
open Cert.Proof.Sort

/-! ### Insertion keeps a finer order -/

variable {ι α : Type} [LinearOrder α]

theorem insert_descending (before : ι → ι → Bool) (e : ι → α) (a : ι) (l : List ι)
    (hl : l.Pairwise fun x y => e y ≤ e x)
    (ha : ∀ b ∈ l, (before b a = true → e a ≤ e b) ∧ (before b a = false → e b ≤ e a)) :
    (insertBefore before a l).Pairwise fun x y => e y ≤ e x := by
  induction l with
  | nil => simp [insertBefore]
  | cons b l ih =>
    obtain ⟨hb, hl'⟩ := List.pairwise_cons.mp hl
    have hab := ha b (List.mem_cons_self)
    have ha' := fun x hx => ha x (List.mem_cons_of_mem _ hx)
    unfold insertBefore
    split
    · next h =>
      refine List.pairwise_cons.mpr ⟨fun x hx => ?_, ih hl' ha'⟩
      rcases List.mem_cons.mp ((perm_insertBefore before a l).mem_iff.mp hx) with rfl | hx'
      · exact hab.1 h
      · exact hb x hx'
    · next h =>
      have hba : e b ≤ e a := hab.2 (by simpa using h)
      refine List.pairwise_cons.mpr ⟨fun x hx => ?_, hl⟩
      rcases List.mem_cons.mp hx with rfl | hx'
      · exact hba
      · exact (hb x hx').trans hba

/-- A stable sort whose comparison agrees with the order of `e`, ties read in the list's own order, sorts by `e`. -/
theorem stable_descending (before : ι → ι → Bool) (e : ι → α) (l : List ι)
    (h : l.Pairwise fun a b => (before b a = true → e a ≤ e b) ∧ (before b a = false → e b ≤ e a)) :
    (stableSort before l).Pairwise fun x y => e y ≤ e x := by
  induction l with
  | nil => simp [stableSort]
  | cons a l ih =>
    obtain ⟨ha, hl⟩ := List.pairwise_cons.mp h
    unfold stableSort
    exact insert_descending before e a _ (ih hl) fun b hb => ha b ((perm_stableSort before l).mem_iff.mp hb)

/-! ### The two sorts agree -/

/-- A query's values with the keys after its position masked out. -/
def masked (p : ℕ) (l : Fin (2 ^ 10) → EReal) (s : Fin (2 ^ 10)) : EReal := if s.val ≤ p then l s else ⊥

/-- The comparison of the stable sort: the greater value first. -/
def greater (p : ℕ) (l : Fin (2 ^ 10) → EReal) (a b : Fin (2 ^ 10)) : Bool := decide (masked p l b < masked p l a)

theorem toInt_small {n : ℕ} (h : n < 2 ^ 10) : (BitVec.ofNat 32 n).toInt = n := by
  rw [BitVec.toInt_ofNat', Int.bmod_eq_of_le] <;> push_cast <;> omega

theorem entries_compare (p : ℕ) (l : Fin (2 ^ 10) → EReal) (hl : ∀ s, l s ≠ ⊥) (a b : Fin (2 ^ 10)) (hab : a < b) :
    (greater p l b a = true → entries p l a ≤ entries p l b)
      ∧ (greater p l b a = false → entries p l b ≤ entries p l a) := by
  have hn : a.val < b.val := hab
  constructor
  · intro h
    have h' : masked p l a < masked p l b := by simpa [greater] using h
    exact le_of_lt ((ent_lt _ _ _ _).mpr (Or.inl h'))
  · intro h
    have h' : masked p l b ≤ masked p l a := by simpa [greater] using h
    rcases lt_or_eq_of_le h' with h1 | h1
    · exact le_of_lt ((ent_lt _ _ _ _).mpr (Or.inl h1))
    · unfold masked at h1
      by_cases hb : b.val ≤ p
      · have ha : a.val ≤ p := by omega
        rw [if_pos ha, if_pos hb] at h1
        unfold entries
        rw [if_pos ha, if_pos hb, if_pos ha, if_pos hb]
        refine le_of_lt ((ent_lt _ _ _ _).mpr (Or.inr ⟨h1, ?_⟩))
        rw [toInt_small a.isLt, toInt_small b.isLt]
        exact_mod_cast hn
      · by_cases ha : a.val ≤ p
        · rw [if_pos ha, if_neg hb] at h1
          exact absurd h1.symm (hl a)
        · unfold entries
          rw [if_neg ha, if_neg hb, if_neg ha, if_neg hb]

/-- The `n`-th sorted entry is the entry at the `n`-th position of the stable sort. -/
theorem sorted_eq (p : ℕ) (l : Fin (2 ^ 10) → EReal) (hl : ∀ s, l s ≠ ⊥) (n : Fin (2 ^ 10)) :
    sorted p l n = entries p l (sortedFrom (greater p l) n) := by
  obtain ⟨σ, hσ⟩ := Network.exists_perm (sortNet 10 true) (entries p l)
  have hanti : Antitone (sorted p l) := sortNet_apply_antitone 10 (entries p l)
  have hperm : (List.ofFn (sorted p l)).Perm ((sortPositions (2 ^ 10) (greater p l)).map (entries p l)) := by
    have h1 : (List.ofFn (sorted p l)).Perm (List.ofFn (entries p l)) := by
      unfold sorted
      rw [hσ]
      exact Equiv.Perm.ofFn_comp_perm σ _
    have h2 := (perm_sortPositions (2 ^ 10) (greater p l)).map (entries p l)
    rw [← List.ofFn_eq_map] at h2
    exact h1.trans h2.symm
  have hd1 : (List.ofFn (sorted p l)).Pairwise (· ≥ ·) := by
    rw [List.pairwise_ofFn]
    exact fun i j hij => hanti (le_of_lt hij)
  have hd2 : ((sortPositions (2 ^ 10) (greater p l)).map (entries p l)).Pairwise (· ≥ ·) := by
    rw [List.pairwise_map]
    exact stable_descending (greater p l) (entries p l) _
      ((List.pairwise_lt_finRange _).imp fun {a b} hab => entries_compare p l hl a b hab)
  have e := eq_of_perm_of_descending hperm hd1 hd2
  have e2 := congrArg (fun L => L[n.val]?) e
  have hlen : n.val < (sortPositions (2 ^ 10) (greater p l)).length := by
    rw [length_sortPositions]
    exact n.isLt
  simp only [List.getElem?_map, List.getElem?_ofFn, n.isLt, dif_pos, List.getElem?_eq_getElem hlen, Option.map_some,
    Option.some.injEq] at e2
  exact e2

/-! ### The host's top-k, read at an index -/

theorem top_along {s : Shape} {β : Type} (d : ℕ) (hd : d < s.rank) (gt : β → β → BitVec 1) (x : s.Idx → β)
    (h : s.Slices (fun _ => 0) s) (j : s.Idx) :
    (Host.topK s d gt x h).1 j
        = x (j.along ⟨d, hd⟩ (sortedFrom
          (fun k k' => gt (x (j.along ⟨d, hd⟩ k)) (x (j.along ⟨d, hd⟩ k')) == 1#1) (j ⟨d, hd⟩)))
      ∧ (Host.topK s d gt x h).2 j
        = BitVec.ofNat 32 (sortedFrom
          (fun k k' => gt (x (j.along ⟨d, hd⟩ k)) (x (j.along ⟨d, hd⟩ k')) == 1#1) (j ⟨d, hd⟩)).val := by
  unfold Host.topK
  dsimp only
  rw [extractStridedSlice_apply _ _ _ _ j (fun a => (Nat.zero_add _).symm),
    extractStridedSlice_apply _ _ _ _ j (fun a => (Nat.zero_add _).symm)]
  unfold Host.sort2
  rw [dif_pos hd]
  refine ⟨rfl, ?_⟩
  dsimp only
  rw [dif_pos hd]
  exact congrArg (fun k : Fin (s.size ⟨d, hd⟩) => BitVec.ofNat 32 k.val) (Function.update_self _ _ _)

theorem along_last (b : Fin 2) (t n k : Fin 1024) (h : 2 < (⟨3, ![2, 1024, 1024]⟩ : Shape).rank) :
    (ix3 b t n : (⟨3, ![2, 1024, 1024]⟩ : Shape).Idx).along ⟨2, h⟩ k = ix3 b t k := by
  funext a
  fin_cases a <;> rfl

theorem top_before (x : (⟨3, ![2, 1024, 1024]⟩ : Shape).Idx → EReal) (i j : (⟨3, ![2, 1024, 1024]⟩ : Shape).Idx) :
    (FloatOps.cmpfTotal (F := Ideal) (φ := .f32) .gt (x i) (x j) == 1#1) = decide (x j < x i) := by
  show (BitVec.ofBool (decide (x j < x i)) == 1#1) = _
  cases decide (x j < x i) <;> rfl

/-- The positions that the stable sort of a row visits. -/
def visited (x : (⟨3, ![2, 1024, 1024]⟩ : Shape).Idx → EReal) (b : Fin 2) (t n : Fin 1024) : Fin 1024 :=
  sortedFrom (fun k k' => decide (x (ix3 b t k') < x (ix3 b t k))) n

theorem top_apply (x : (⟨3, ![2, 1024, 1024]⟩ : Shape).Idx → EReal)
    (h : (⟨3, ![2, 1024, 1024]⟩ : Shape).Slices (fun _ => 0) ⟨3, ![2, 1024, 1024]⟩) (b : Fin 2) (t n : Fin 1024) :
    (Host.topK ⟨3, ![2, 1024, 1024]⟩ 2 (FloatOps.cmpfTotal (F := Ideal) (φ := .f32) .gt) x h).1 (ix3 b t n)
        = x (ix3 b t (visited x b t n))
      ∧ (Host.topK ⟨3, ![2, 1024, 1024]⟩ 2 (FloatOps.cmpfTotal (F := Ideal) (φ := .f32) .gt) x h).2 (ix3 b t n)
        = BitVec.ofNat 32 (visited x b t n).val := by
  have hs : 2 < (⟨3, ![2, 1024, 1024]⟩ : Shape).rank := by decide
  have e : ∀ k : Fin 1024, (ix3 b t n : (⟨3, ![2, 1024, 1024]⟩ : Shape).Idx).along ⟨2, hs⟩ k = ix3 b t k :=
    fun k => along_last b t n k hs
  have hv : sortedFrom (n := 1024) (fun k k' =>
      FloatOps.cmpfTotal (F := Ideal) (φ := .f32) .gt (x ((ix3 b t n : (⟨3, ![2, 1024, 1024]⟩ : Shape).Idx).along ⟨2, hs⟩ k))
        (x ((ix3 b t n : (⟨3, ![2, 1024, 1024]⟩ : Shape).Idx).along ⟨2, hs⟩ k')) == 1#1) n = visited x b t n := by
    unfold visited
    congr 1
    funext k k'
    rw [top_before, e, e]
  obtain ⟨h1, h2⟩ := top_along 2 hs (FloatOps.cmpfTotal (F := Ideal) (φ := .f32) .gt) x h (ix3 b t n)
  exact ⟨h1.trans ((congrArg (fun k : Fin 1024 => x ((ix3 b t n : (⟨3, ![2, 1024, 1024]⟩ : Shape).Idx).along ⟨2, hs⟩ k)) hv).trans
    (congrArg x (e _))), h2.trans (congrArg (fun k : Fin 1024 => BitVec.ofNat 32 k.val) hv)⟩

end Cert.Proof

end

end
-- ==== Proof.Finite.lean ====
/-
  Of finite arguments every intermediate array of the reference is finite, the scales are positive, and so no logit is `⊥`.
-/
module

public import proofs.«01_k».proof.Pre_finite
public import proofs.«01_k».proof.Proof.HostBefore
public import Idealize.ShloMosaic.PureOps.Ideal.Laws

@[expose] public section

noncomputable section

namespace Cert.Proof

open Idealize.ShloMosaic Idealize.ShloMosaic.ValueIdx
open scoped BigOperators

/-- The extended real is a real. -/
def IsReal (x : EReal) : Prop := ∃ r : ℝ, x = (r : EReal)

/-- The extended real is a real that is not negative, or is positive. -/
def IsNonneg (x : EReal) : Prop := ∃ r : ℝ, 0 ≤ r ∧ x = (r : EReal)

def IsPos (x : EReal) : Prop := ∃ r : ℝ, 0 < r ∧ x = (r : EReal)

theorem IsPos.real {x : EReal} : IsPos x → IsReal x := fun ⟨r, _, h⟩ => ⟨r, h⟩

theorem IsPos.nonneg {x : EReal} : IsPos x → IsNonneg x := fun ⟨r, hr, h⟩ => ⟨r, hr.le, h⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.neg {x : EReal} (hx : IsReal x) : IsReal (-x) := by
  obtain ⟨a, rfl⟩ := hx
  exact ⟨-a, (EReal.coe_neg a).symm⟩

theorem IsReal.zero : IsReal 0 := ⟨0, rfl⟩

theorem IsReal.max {x y : EReal} (hx : IsReal x) (hy : IsReal y) : IsReal (max x y) := by
  rcases max_choice x y with h | h <;> rw [h] <;> assumption

theorem IsReal.sum {ι : Type} (s : Finset ι) (f : ι → EReal) (hf : ∀ i, IsReal (f i)) : IsReal (∑ i ∈ s, f i) :=
  Finset.sum_induction f IsReal (fun _ _ => IsReal.add) IsReal.zero fun i _ => hf i

theorem IsReal.ne_bot {x : EReal} (hx : IsReal x) : x ≠ ⊥ := by
  obtain ⟨a, rfl⟩ := hx
  exact EReal.coe_ne_bot a

theorem IsReal.ne_top {x : EReal} (hx : IsReal x) : x ≠ ⊤ := by
  obtain ⟨a, rfl⟩ := hx
  exact EReal.coe_ne_top a

theorem IsReal.square {x : EReal} (hx : IsReal x) : IsNonneg (x * x) := by
  obtain ⟨a, rfl⟩ := hx
  exact ⟨a * a, mul_self_nonneg a, (EReal.coe_mul a a).symm⟩

theorem IsNonneg.add {x y : EReal} (hx : IsNonneg x) (hy : IsNonneg y) : IsNonneg (x + y) := by
  obtain ⟨a, ha, rfl⟩ := hx
  obtain ⟨b, hb, rfl⟩ := hy
  exact ⟨a + b, add_nonneg ha hb, (EReal.coe_add a b).symm⟩

theorem IsNonneg.zero : IsNonneg 0 := ⟨0, le_rfl, rfl⟩

theorem IsNonneg.sum {ι : Type} (s : Finset ι) (f : ι → EReal) (hf : ∀ i, IsNonneg (f i)) : IsNonneg (∑ i ∈ s, f i) :=
  Finset.sum_induction f IsNonneg (fun _ _ => IsNonneg.add) IsNonneg.zero fun i _ => hf i

theorem IsNonneg.add_pos {x y : EReal} (hx : IsNonneg x) (hy : IsPos y) : IsPos (x + y) := by
  obtain ⟨a, ha, rfl⟩ := hx
  obtain ⟨b, hb, rfl⟩ := hy
  exact ⟨a + b, add_pos_of_nonneg_of_pos ha hb, (EReal.coe_add a b).symm⟩

theorem IsPos.ne_zero {x : EReal} (hx : IsPos x) : x ≠ 0 := by
  obtain ⟨a, ha, rfl⟩ := hx
  exact_mod_cast ha.ne'

theorem div_coe (a b : ℝ) (hb : b ≠ 0) : Ideal.div (a : EReal) (b : EReal) = ((a * b⁻¹ : ℝ) : EReal) := by
  unfold Ideal.div
  rw [if_neg (by exact_mod_cast hb), EReal.coe_mul, EReal.coe_inv]

theorem IsReal.div {x y : EReal} (hx : IsReal x) (hy : IsPos y) : IsReal (Ideal.div x y) := by
  obtain ⟨a, rfl⟩ := hx
  obtain ⟨b, hb, rfl⟩ := hy
  exact ⟨_, div_coe a b hb.ne'⟩

theorem IsNonneg.div {x y : EReal} (hx : IsNonneg x) (hy : IsPos y) : IsNonneg (Ideal.div x y) := by
  obtain ⟨a, ha, rfl⟩ := hx
  obtain ⟨b, hb, rfl⟩ := hy
  exact ⟨_, mul_nonneg ha (inv_nonneg.mpr hb.le), div_coe a b hb.ne'⟩

theorem IsPos.div {x y : EReal} (hx : IsPos x) (hy : IsPos y) : IsPos (Ideal.div x y) := by
  obtain ⟨a, ha, rfl⟩ := hx
  obtain ⟨b, hb, rfl⟩ := hy
  exact ⟨_, mul_pos ha (inv_pos.mpr hb), div_coe a b hb.ne'⟩

theorem IsPos.sqrt {x : EReal} (hx : IsPos x) : IsPos (Ideal.sqrt x) := by
  obtain ⟨a, ha, rfl⟩ := hx
  exact ⟨Real.sqrt a, Real.sqrt_pos.mpr ha, if_neg (not_lt.mpr ha.le)⟩

theorem IsPos.log {x : EReal} (hx : IsPos x) : IsReal (Ideal.log x) := by
  obtain ⟨a, ha, rfl⟩ := hx
  exact ⟨Real.log a, if_neg (not_le.mpr ha)⟩

theorem IsReal.exp {x : EReal} (hx : IsReal x) : IsPos (Ideal.exp x) := by
  obtain ⟨a, rfl⟩ := hx
  exact ⟨Real.exp a, Real.exp_pos a, rfl⟩

theorem IsReal.cos {x : EReal} (hx : IsReal x) : IsReal (Ideal.cos x) := by
  obtain ⟨a, rfl⟩ := hx
  exact ⟨Real.cos a, rfl⟩

theorem IsReal.sin {x : EReal} (hx : IsReal x) : IsReal (Ideal.sin x) := by
  obtain ⟨a, rfl⟩ := hx
  exact ⟨Real.sin a, rfl⟩

theorem IsReal.ceil {x : EReal} (hx : IsReal x) : IsReal (Ideal.liftRound Int.ceil x) := by
  obtain ⟨a, rfl⟩ := hx
  exact ⟨(⌈a⌉ : ℤ), rfl⟩

/-- A maximum with a positive number is positive where the other is not `⊤`. -/
theorem IsPos.max_of_ne_top {x y : EReal} (hx : x ≠ ⊤) (hy : IsPos y) : IsPos (max x y) := by
  obtain ⟨b, hb, rfl⟩ := hy
  induction x with
  | bot => exact ⟨b, hb, max_eq_right bot_le⟩
  | coe a => exact ⟨max a b, lt_max_of_lt_right hb, (EReal.coe_strictMono.monotone.map_max).symm⟩
  | top => exact absurd rfl hx

theorem rotAt_real (x : Fin 128 → EReal) (c s : Fin 32 → EReal) (hx : ∀ d, IsReal (x d)) (hc : ∀ e, IsReal (c e))
    (hs : ∀ e, IsReal (s e)) (d : Fin 128) : IsReal (rotAt x c s d) := by
  unfold rotAt
  split
  · exact ((hx _).mul (hc _)).sub ((hx _).mul (hs _))
  · split
    · exact ((hx _).mul (hc _)).add ((hx _).mul (hs _))
    · exact hx _

/-- A word whose exponent is not all ones is a real, -/
theorem word_real (b : BitVec 32) (h : (b.extractLsb' 23 8).toNat ≠ 255) : IsReal (Ideal.ofBits .f32 b) := by
  show IsReal (Ideal.ieee 8 23 b)
  unfold Ideal.ieee
  dsimp only
  rw [if_neg (by exact h)]
  split
  · exact ⟨_, rfl⟩
  · exact ⟨_, rfl⟩

/-- and a positive one where the sign is plus and the exponent not zero. -/
theorem word_pos (b : BitVec 32) (h : (b.extractLsb' 23 8).toNat ≠ 255) (h0 : (b.extractLsb' 23 8).toNat ≠ 0)
    (hs : (b.extractLsb' 31 1 == 1#1) = false) : IsPos (Ideal.ofBits .f32 b) := by
  show IsPos (Ideal.ieee 8 23 b)
  unfold Ideal.ieee
  dsimp only
  rw [if_neg (by exact h), if_neg h0]
  refine ⟨_, ?_, rfl⟩
  have e : (b.extractLsb' (8 + 23) 1 == 1#1) = false := hs
  rw [e]
  simp only [Bool.false_eq_true, if_false, one_mul]
  positivity

/-- A maximum over an axis is not `⊤` where none of its terms is. -/
theorem reduceMax_ne_top {s t u : Shape} {axes : List (Fin s.rank)} (x : FVec Ideal s .f32) (init : FVec Ideal u .f32)
    (h : s.ReducesTo axes t) (hu : 0 < u.numel) (hx : ∀ i, x i ≠ (⊤ : EReal)) (h0 : ∀ i, init i ≠ (⊤ : EReal)) (j : t.Idx) :
    Host.reduce (FloatOps.maximumf (F := Ideal) (φ := .f32)) x init h hu j ≠ (⊤ : EReal) := by
  unfold Host.reduce
  generalize (List.finRange s.numel).filter (fun n => h.drop (s.rowMajor.symm n) = j) = l
  have hi := h0 (Shape.Idx.first hu)
  generalize init (Shape.Idx.first hu) = e at hi
  induction l generalizing e with
  | nil => exact hi
  | cons n l ih =>
    refine ih _ ?_
    show max e (x (s.rowMajor.symm n)) ≠ (⊤ : EReal)
    rcases max_choice e (x (s.rowMajor.symm n)) with k | k <;> rw [k]
    · exact hi
    · exact hx _

section Reference
open Cert.ReferenceIdeal Cert.ReferenceIdeal.Read

variable {x0 : (⟨S2048x1536, .f32⟩ : BufTy).Contents (Elt Ideal)} {x1 : (⟨S2048x2048, .f32⟩ : BufTy).Contents (Elt Ideal)}
  (x2 : (⟨S2048, .i32⟩ : BufTy).Contents (Elt Ideal)) {x4 : (⟨S1536x2048, .f32⟩ : BufTy).Contents (Elt Ideal)}
  {x5 : (⟨S2048x128, .f32⟩ : BufTy).Contents (Elt Ideal)} {x6 x7 : (⟨S128, .f32⟩ : BufTy).Contents (Elt Ideal)}
  {x8 : (⟨S2048x16, .f32⟩ : BufTy).Contents (Elt Ideal)}

theorem table_real (i : S32.Idx) : IsReal (val_main_v34 (F := Ideal) i) := by
  rw [← table_eq]
  exact word_real _ ((by decide : ∀ k : Fin 32, ((Cert.KernelIdeal.lit0 k).extractLsb' 23 8).toNat ≠ 255) (S32.rowMajor i))

theorem angles_real (i : S2048x32.Idx) : IsReal (val_main_v40 (F := Ideal) x2 i) := by
  rw [val_main_v40_apply, val_main_v38_apply, val_main_v39_apply, val_main_v36_apply, val_main_v37_apply, val_main_v35_apply]
  exact IsReal.mul ⟨_, rfl⟩ (table_real _)

theorem cos_real (i : S2048x32.Idx) : IsReal (val_main_v41 (F := Ideal) x2 i) := IsReal.cos (angles_real x2 i)

theorem sin_real (i : S2048x32.Idx) : IsReal (val_main_v42 (F := Ideal) x2 i) := IsReal.sin (angles_real x2 i)

theorem queries_real (h0 : ∀ i, IsReal (x0 i)) (h4 : ∀ i, IsReal (x4 i)) (i : S2048x16x128.Idx) :
    IsReal (val_main_v62 (F := Ideal) x0 x2 x4 i) := by
  obtain ⟨r, h, d, rfl⟩ : ∃ (r : Fin 2048) (h : Fin 16) (d : Fin 128), i = ix3 r h d := ⟨i 0, i 1, i 2, eq_ix3 i⟩
  rw [ref_queries_apply]
  refine rotAt_real _ _ _ (fun d => ?_) (fun e => cos_real x2 _) (fun e => sin_real x2 _) d
  rw [val_main_v43_apply]
  exact IsReal.sum _ _ fun e => (h0 _).mul (h4 _)

theorem ones : IsPos (FloatOps.ofBits (F := Ideal) .f32 0x3F800000#32) := word_pos _ (by decide) (by decide) (by decide)
theorem width : IsPos (FloatOps.ofBits (F := Ideal) .f32 0x43000000#32) := word_pos _ (by decide) (by decide) (by decide)
theorem small : IsPos (FloatOps.ofBits (F := Ideal) .f32 0x358637BD#32) := word_pos _ (by decide) (by decide) (by decide)
theorem least : IsPos (FloatOps.ofBits (F := Ideal) .f32 0x38D1B717#32) := word_pos _ (by decide) (by decide) (by decide)
theorem most : IsPos (FloatOps.ofBits (F := Ideal) .f32 0x43E00000#32) := word_pos _ (by decide) (by decide) (by decide)
theorem toBase2 : IsPos (FloatOps.ofBits (F := Ideal) .f32 0x3FB8AA3B#32) := word_pos _ (by decide) (by decide) (by decide)
theorem toBaseE : IsPos (FloatOps.ofBits (F := Ideal) .f32 0x3F317218#32) := word_pos _ (by decide) (by decide) (by decide)
theorem perFeature : IsPos (FloatOps.ofBits (F := Ideal) .f32 0x3DB504F3#32) := word_pos _ (by decide) (by decide) (by decide)
theorem perHead : IsPos (FloatOps.ofBits (F := Ideal) .f32 0x3E800000#32) := word_pos _ (by decide) (by decide) (by decide)

/-- The scale of a row is positive where the row's largest entry is not `⊤`. -/
theorem scale_pos {x : EReal} (hx : x ≠ ⊤) :
    IsPos (Ideal.exp (FloatOps.ofBits (F := Ideal) .f32 0x3F317218#32
      * Ideal.liftRound Int.ceil (Ideal.log (Ideal.div (max x (FloatOps.ofBits (F := Ideal) .f32 0x38D1B717#32))
          (FloatOps.ofBits (F := Ideal) .f32 0x43E00000#32)) * FloatOps.ofBits (F := Ideal) .f32 0x3FB8AA3B#32))) :=
  (toBaseE.real.mul ((((IsPos.max_of_ne_top hx least).div most).log.mul toBase2.real).ceil)).exp

theorem lowest : Ideal.ofBits .f32 0xFF800000#32 = (⊥ : EReal) := by
  simp [Ideal.ofBits, Ideal.ieee]

/-- The scales of the queries are positive. -/
theorem queryScale_pos (h0 : ∀ i, IsReal (x0 i)) (h4 : ∀ i, IsReal (x4 i)) (i : S2048x16x1.Idx) :
    IsPos (val_main_v113 (F := Ideal) x0 x2 x4 i) := by
  rw [val_main_v113_apply, val_main_v112_apply, val_main_v110_apply, val_main_v109_apply, val_main_v107_apply, val_main_v106_apply,
    val_main_v104_apply, val_main_v102_apply]
  refine scale_pos (x := val_main_v101 (F := Ideal) x0 x2 x4 (idx_main_v102 i)) ?_
  unfold val_main_v101
  refine reduceMax_ne_top _ _ _ _ (fun i => ?_) (fun i => ?_) _
  · exact ((queries_real x2 h0 h4 i).max (queries_real x2 h0 h4 i).neg).ne_top
  · show Ideal.ofBits .f32 0xFF800000#32 ≠ (⊤ : EReal)
    rw [lowest]
    exact bot_ne_top

variable (h1 : ∀ i, IsReal (x1 i)) (h5 : ∀ i, IsReal (x5 i)) (h6 : ∀ i, IsReal (x6 i)) (h7 : ∀ i, IsReal (x7 i))

include h1 h5 in
theorem product_real (i : S2048x128.Idx) : IsReal (val_main_v63 (F := Ideal) x1 x5 i) := by
  rw [val_main_v63_apply]
  exact IsReal.sum _ _ fun e => (h1 _).mul (h5 _)

theorem zeroWord : Ideal.ofBits .f32 0x00000000#32 = (0 : EReal) := Ideal.ofBits_zero_f32

include h1 h5 in
theorem mean_real (i : S2048x1.Idx) : IsReal (val_main_v67 (F := Ideal) x1 x5 i) := by
  rw [val_main_v67_apply, val_main_v65_apply, val_main_v64_apply, val_main_v66_apply]
  refine IsReal.div (IsReal.add ?_ (IsReal.sum _ _ fun e => product_real h1 h5 _)) width
  exact ⟨0, zeroWord⟩

include h1 h5 in
theorem spread_pos (i : S2048x1.Idx) : IsPos (val_main_v79 (F := Ideal) x1 x5 i) := by
  rw [val_main_v79_apply, val_main_v78_apply, val_main_v74_apply, val_main_v72_apply, val_main_v71_apply, val_main_v73_apply,
    val_main_v77_apply]
  refine IsPos.sqrt (IsNonneg.add_pos (IsNonneg.div (IsNonneg.add ?_ (IsNonneg.sum _ _ fun e => ?_)) width) small)
  · exact ⟨0, le_rfl, zeroWord⟩
  · rw [val_main_v70_apply, val_main_v69_apply, val_main_v68_apply]
    exact IsReal.square ((product_real h1 h5 _).sub (mean_real h1 h5 _))

include h1 h5 h6 h7 in
theorem normed_real (i : S2048x128.Idx) : IsReal (val_main_v87 (F := Ideal) x1 x5 x6 x7 i) := by
  rw [val_main_v87_apply, val_main_v84_apply, val_main_v81_apply, val_main_v76_apply, val_main_v75_apply, val_main_v80_apply,
    val_main_v83_apply, val_main_v82_apply, val_main_v86_apply, val_main_v85_apply]
  exact ((((product_real h1 h5 _).sub (mean_real h1 h5 _)).div (spread_pos h1 h5 _)).mul (h6 _)).add (h7 _)

include h1 h5 h6 h7 in
theorem keys_real (i : S2048x128.Idx) : IsReal (val_main_v99 (F := Ideal) x1 x2 x5 x6 x7 i) := by
  obtain ⟨r, d, rfl⟩ : ∃ (r : Fin 2048) (d : Fin 128), i = ix2 r d := ⟨i 0, i 1, eq_ix2 i⟩
  rw [ref_keys_apply]
  exact rotAt_real _ _ _ (fun d => normed_real h1 h5 h6 h7 _) (fun e => cos_real x2 _) (fun e => sin_real x2 _) d

include h1 h5 h6 h7 in
theorem keyScale_pos (i : S2048x1.Idx) : IsPos (val_main_v129 (F := Ideal) x1 x2 x5 x6 x7 i) := by
  rw [val_main_v129_apply, val_main_v128_apply, val_main_v126_apply, val_main_v125_apply, val_main_v123_apply, val_main_v122_apply,
    val_main_v120_apply, val_main_v118_apply]
  refine scale_pos (x := val_main_v117 (F := Ideal) x1 x2 x5 x6 x7 (idx_main_v118 i)) ?_
  unfold val_main_v117
  refine reduceMax_ne_top _ _ _ _ (fun i => ?_) (fun i => ?_) _
  · exact ((keys_real x2 h1 h5 h6 h7 i).max (keys_real x2 h1 h5 h6 h7 i).neg).ne_top
  · show Ideal.ofBits .f32 0xFF800000#32 ≠ (⊤ : EReal)
    rw [lowest]
    exact bot_ne_top

include h1 h5 h6 h7 in
theorem codes_real (i : S2048x128.Idx) : IsReal (val_main_v131 (F := Ideal) x1 x2 x5 x6 x7 i) := by
  rw [val_main_v131_apply, val_main_v130_apply]
  exact (keys_real x2 h1 h5 h6 h7 _).div (keyScale_pos x2 h1 h5 h6 h7 _)

include h1 in
theorem weights_real (h0 : ∀ i, IsReal (x0 i)) (h4 : ∀ i, IsReal (x4 i)) (h8 : ∀ i, IsReal (x8 i)) (i : S2048x16.Idx) :
    IsReal (val_main_v138 (F := Ideal) x0 x1 x2 x4 x8 i) := by
  rw [val_main_v138_apply, val_main_v136_apply, val_main_v134_apply, val_main_v133_apply, val_main_v132_apply]
  exact (((IsReal.sum _ _ fun e => (h1 _).mul (h8 _)).mul (queryScale_pos x2 h0 h4 _).real).mul perFeature.real).mul perHead.real

end Reference

theorem logits_real (qq : (⟨2, ![2048, 2048]⟩ : Shape).Idx → EReal) (kq : (⟨2, ![2048, 128]⟩ : Shape).Idx → EReal)
    (ks : (⟨2, ![2048, 1]⟩ : Shape).Idx → EReal) (wq iq : (⟨2, ![2048, 16]⟩ : Shape).Idx → EReal)
    (h0 : ∀ (r : Fin 2048) (h : Fin 16) (d : Fin 128), IsReal (qq (ix2 r (headCol h d)))) (h1 : ∀ i, IsReal (kq i))
    (h2 : ∀ i, IsReal (ks i)) (h3 : ∀ i, IsReal (wq i))
    (h4 : ∀ (r : Fin 2048) (h : Fin 16), IsReal (iq (ix2 r h))) (r : Fin 2048) (s : Fin (2 ^ 10)) :
    IsReal (logits qq kq ks wq iq r s) :=
  IsReal.mul
    (IsReal.sum _ _ fun _ =>
      IsReal.mul (IsReal.max (IsReal.sum _ _ fun _ => IsReal.mul (h1 _) (IsReal.mul (h0 _ _ _) (h4 _ _))) IsReal.zero) (h3 _))
    (h2 _)

/-! The precondition. -/

theorem isReal_of_abs_lt {x : EReal} (h : max x (-x) < ⊤) : IsReal x := by
  obtain ⟨h1, h2⟩ := max_lt_iff.mp h
  induction x with
  | bot => simp at h2
  | coe r => exact ⟨r, rfl⟩
  | top => simp at h1

/-- The facts that the precondition's operations need. -/
instance preFacts : Cert.Pre_finite.Facts where
  bcast_S_S2048x1536 := by decide
  bcast_S_S2048x2048 := by decide
  bcast_S_S1536x2048 := by decide
  bcast_S_S2048x128 := by decide
  bcast_S_S128 := by decide
  bcast_S_S2048x16 := by decide

theorem infinity : Ideal.ofBits .f32 0x7F800000#32 = (⊤ : EReal) := by
  simp [Ideal.ofBits, Ideal.ieee]

theorem isReal_of_bit {x : EReal}
    (h : FloatOps.cmpf (F := Ideal) (φ := .f32) .olt (FloatOps.absf (F := Ideal) (φ := .f32) x)
      (FloatOps.ofBits (F := Ideal) .f32 0x7F800000#32) = 1#1) : IsReal x := by
  have h' : BitVec.ofBool (decide (max x (-x) < Ideal.ofBits .f32 0x7F800000#32)) = 1#1 := h
  rw [infinity] at h'
  refine isReal_of_abs_lt ?_
  by_contra hc
  rw [decide_eq_false hc] at h'
  exact absurd h' (by decide)

end Cert.Proof

end

end
-- ==== Proof.Reading.lean ====
/-
  The reference, read at an index: its masked logits are those of the row, and its results are what the stable sort of the
  row visits.
-/
module

public import proofs.«01_k».proof.Proof.Gen.ReferenceIdeal.Read
public import proofs.«01_k».proof.Proof.Top
public import proofs.«01_k».proof.Proof.Finite

@[expose] public section

noncomputable section

namespace Cert.Proof

open Idealize.ShloMosaic Idealize.ShloMosaic.ValueIdx Idealize.ShloMosaic.SortNet Cert.ReferenceIdeal
  Cert.ReferenceIdeal.Read
open Cert.Proof.Sort
open scoped BigOperators

/-- The row of query `t` of context `b`. -/
def rowOf (b : Fin 2) (t : Fin 1024) : Fin 2048 := ⟨b.val * 1024 + t.val, by omega⟩

variable (x0 : (⟨S2048x1536, .f32⟩ : BufTy).Contents (Elt Ideal)) (x1 : (⟨S2048x2048, .f32⟩ : BufTy).Contents (Elt Ideal))
  (x2 : (⟨S2048, .i32⟩ : BufTy).Contents (Elt Ideal)) (x4 : (⟨S1536x2048, .f32⟩ : BufTy).Contents (Elt Ideal))
  (x5 : (⟨S2048x128, .f32⟩ : BufTy).Contents (Elt Ideal)) (x6 x7 : (⟨S128, .f32⟩ : BufTy).Contents (Elt Ideal))
  (x8 : (⟨S2048x16, .f32⟩ : BufTy).Contents (Elt Ideal))

theorem place_query (b : Fin 2) (t s : Fin 1024) (h : Fin 16) (d : Fin 128) :
    idx_main_v139 (lidx_main_v141 (idx_main_v146 (ix3 b t s) h) d) = ix3 (rowOf b t) h d := by
  funext a
  fin_cases a <;> apply Fin.ext
  · show (((b.val * 1024 + t.val) * 16 + h.val) * 128 + d.val) / 2048 = b.val * 1024 + t.val
    omega
  · show (((b.val * 1024 + t.val) * 16 + h.val) * 128 + d.val) / 128 % 16 = h.val
    omega
  · show (((b.val * 1024 + t.val) * 16 + h.val) * 128 + d.val) % 128 = d.val
    omega

theorem place_scale (r : Fin 2048) (h : Fin 16) (d : Fin 128) : idx_main_v114 (ix3 r h d) = ix3 r h (0 : Fin 1) := by
  funext a
  fin_cases a <;> rfl

theorem place_key (b : Fin 2) (t s : Fin 1024) (h : Fin 16) (d : Fin 128) :
    idx_main_v140 (ridx_main_v141 (idx_main_v146 (ix3 b t s) h) d) = ix2 (rowKey (rowOf b t) s) d := by
  funext a
  fin_cases a <;> apply Fin.ext
  · show ((b.val * 1024 + s.val) * 128 + d.val) / 128 = (b.val * 1024 + t.val) / 1024 * 1024 + s.val
    omega
  · show ((b.val * 1024 + s.val) * 128 + d.val) % 128 = d.val
    omega

theorem place_weight (b : Fin 2) (t s : Fin 1024) (h : Fin 16) :
    idx_main_v143 (idx_main_v144 (idx_main_v146 (ix3 b t s) h)) = ix2 (rowOf b t) h := by
  funext a
  fin_cases a <;> apply Fin.ext
  · show (((b.val * 1024 + t.val) * 16 + h.val) * 1 + 0) / 16 = b.val * 1024 + t.val
    omega
  · show (((b.val * 1024 + t.val) * 16 + h.val) * 1 + 0) % 16 = h.val
    omega

theorem place_keyScale (b : Fin 2) (t s : Fin 1024) :
    idx_main_v147 (idx_main_v148 (ix3 b t s)) = ix2 (rowKey (rowOf b t) s) (0 : Fin 1) := by
  funext a
  fin_cases a <;> apply Fin.ext
  · show ((b.val * 1 + 0) * 1024 + s.val) / 1 = (b.val * 1024 + t.val) / 1024 * 1024 + s.val
    omega
  · rfl

theorem one_word : Ideal.ofBits .f32 0x3F800000#32 = (1 : EReal) := by
  simp [Ideal.ofBits, Ideal.ieee]
  norm_num
  rw [← EReal.coe_mul]
  norm_num

/-- Dividing by a positive number is multiplying by its inverse, the quotient of one by it. -/
theorem div_as_mul {x s : EReal} (hs : IsPos s) : Ideal.div x s = x * Ideal.div (FloatOps.ofBits (F := Ideal) .f32 0x3F800000#32) s := by
  have h1 : (FloatOps.ofBits (F := Ideal) .f32 0x3F800000#32 : EReal) = 1 := one_word
  rw [h1]
  unfold Ideal.div
  rw [if_neg hs.ne_zero, if_neg hs.ne_zero, one_mul]

section Rows

variable (qq : (⟨2, ![2048, 2048]⟩ : Shape).Idx → EReal) (iq : (⟨2, ![2048, 16]⟩ : Shape).Idx → EReal)

/-- What the second call reads of the queries and their scales agrees with the reference's arrays, and the scales are positive. -/
structure Agree : Prop where
  query : ∀ (r : Fin 2048) (h : Fin 16) (d : Fin 128),
    qq (ix2 r (headCol h d)) = val_main_v62 (F := Ideal) x0 x2 x4 (ix3 r h d)
  inverse : ∀ (r : Fin 2048) (h : Fin 16), iq (ix2 r h)
    = Ideal.div (FloatOps.ofBits (F := Ideal) .f32 0x3F800000#32) (val_main_v113 (F := Ideal) x0 x2 x4 (ix3 r h (0 : Fin 1)))
  positive : ∀ i, IsPos (val_main_v113 (F := Ideal) x0 x2 x4 i)

/-- The row's logits, of the arrays that the second call reads. -/
abbrev rowLogits (r : Fin 2048) (s : Fin (2 ^ 10)) : EReal :=
  logits qq (val_main_v131 (F := Ideal) x1 x2 x5 x6 x7) (val_main_v129 (F := Ideal) x1 x2 x5 x6 x7)
    (val_main_v138 (F := Ideal) x0 x1 x2 x4 x8) iq r s

variable {qq iq}

/-- The reference's logits. -/
theorem ref_logits (ag : Agree x0 x2 x4 qq iq) (b : Fin 2) (t s : Fin 1024) :
    val_main_v149 (F := Ideal) x0 x1 x2 x4 x5 x6 x7 x8 (ix3 b t s) = rowLogits x0 x1 x2 x4 x5 x6 x7 x8 qq iq (rowOf b t) s := by
  have hz : (FloatOps.ofBits .f32 0x00000000#32 : Ideal .f32) = (0 : EReal) := Ideal.ofBits_zero_f32
  have hd : ∀ h : Fin 16, val_main_v141 (F := Ideal) x0 x1 x2 x4 x5 x6 x7 (idx_main_v146 (ix3 b t s) h)
      = ∑ d : Fin 128, val_main_v131 (F := Ideal) x1 x2 x5 x6 x7 (ix2 (rowKey (rowOf b t) s) d)
          * (qq (ix2 (rowOf b t) (headCol h d)) * iq (ix2 (rowOf b t) h)) := fun h => by
    rw [val_main_v141_apply]
    refine Finset.sum_congr rfl fun d _ => ?_
    rw [val_main_v139_apply, val_main_v140_apply, place_query, place_key, val_main_v115_apply, val_main_v114_apply, place_scale,
      ag.query, ag.inverse, ← div_as_mul (ag.positive _)]
    exact mul_comm _ _
  have hh : ∀ h : Fin 16, val_main_v145 (F := Ideal) x0 x1 x2 x4 x5 x6 x7 x8 (idx_main_v146 (ix3 b t s) h)
      = headLogit (fun d => val_main_v131 (F := Ideal) x1 x2 x5 x6 x7 (ix2 (rowKey (rowOf b t) s) d))
          (fun d => qq (ix2 (rowOf b t) (headCol h d)))
          (iq (ix2 (rowOf b t) h)) (val_main_v138 (F := Ideal) x0 x1 x2 x4 x8 (ix2 (rowOf b t) h)) := fun h => by
    rw [val_main_v145_apply, val_main_v144_apply, val_main_v143_apply, val_main_v142_apply, val_main_call0_v0_apply,
      val_main_call0_cst_apply, hd, place_weight, hz]
    exact mul_comm _ _
  rw [val_main_v149_apply, val_main_v146_apply, val_main_v148_apply, val_main_v147_apply, place_keyScale,
    val_main_cst_48_apply, hz]
  simp only [hh, zero_add]
  rfl

theorem sle_small {a b : ℕ} (ha : a < 2 ^ 10) (hb : b < 2 ^ 10) :
    IntOp.cmpi .sle (BitVec.ofNat 32 a) (BitVec.ofNat 32 b) = BitVec.ofBool (decide (a ≤ b)) := by
  show BitVec.ofBool ((BitVec.ofNat 32 a).sle (BitVec.ofNat 32 b)) = _
  rw [BitVec.sle, toInt_small ha, toInt_small hb]
  simp

/-- The reference's masked logits. -/
theorem ref_masked (ag : Agree x0 x2 x4 qq iq) (b : Fin 2) (t s : Fin 1024) :
    val_main_v156 (F := Ideal) x0 x1 x2 x4 x5 x6 x7 x8 (ix3 b t s) = masked t.val (rowLogits x0 x1 x2 x4 x5 x6 x7 x8 qq iq (rowOf b t)) s := by
  have hm : val_main_call1_v1 (F := Ideal) (ix3 b t s) = BitVec.ofBool (decide (s.val ≤ t.val)) := by
    rw [val_main_call1_v1_apply, val_main_v155_apply, val_main_v153_apply, val_main_v154_apply, val_main_v151_apply,
      val_main_v152_apply, val_main_v150_apply, val_main_v150_apply]
    exact sle_small s.isLt t.isLt
  rw [val_main_v156_apply, hm, select_ofBool, ref_logits _ _ _ _ _ _ _ _ ag, val_main_call1_v2_apply, val_main_call1_v0_apply,
    val_main_cst_49_apply]
  unfold masked
  simp only [decide_eq_true_eq]
  congr 1

theorem visited_eq (ag : Agree x0 x2 x4 qq iq) (b : Fin 2) (t n : Fin 1024) :
    visited (val_main_v156 (F := Ideal) x0 x1 x2 x4 x5 x6 x7 x8) b t n
      = sortedFrom (greater t.val (rowLogits x0 x1 x2 x4 x5 x6 x7 x8 qq iq (rowOf b t))) n := by
  unfold visited
  congr 1
  funext k k'
  rw [ref_masked _ _ _ _ _ _ _ _ ag, ref_masked _ _ _ _ _ _ _ _ ag]
  rfl

theorem place_result (r : Fin 2048) (n : Fin 1024) :
    idx_main_v161 (ix2 r n) = ix3 (⟨r.val / 1024, by omega⟩ : Fin 2) (⟨r.val % 1024, by omega⟩ : Fin 1024) n := by
  funext a
  fin_cases a <;> apply Fin.ext
  · show (r.val * 1024 + n.val) / 1048576 = r.val / 1024
    omega
  · show (r.val * 1024 + n.val) / 1024 % 1024 = r.val % 1024
    omega
  · show (r.val * 1024 + n.val) % 1024 = n.val
    omega

theorem place_result' (r : Fin 2048) (n : Fin 1024) :
    idx_main_v162 (ix2 r n) = ix3 (⟨r.val / 1024, by omega⟩ : Fin 2) (⟨r.val % 1024, by omega⟩ : Fin 1024) n :=
  place_result r n

theorem rowOf_split (r : Fin 2048) :
    rowOf (⟨r.val / 1024, by omega⟩ : Fin 2) (⟨r.val % 1024, by omega⟩ : Fin 1024) = r :=
  Fin.ext (by show r.val / 1024 * 1024 + r.val % 1024 = r.val; omega)

/-- A row's value before the last reshape. -/
theorem ref_value_at (ag : Agree x0 x2 x4 qq iq) (b : Fin 2) (t n : Fin 1024) :
    val_main_values (F := Ideal) x0 x1 x2 x4 x5 x6 x7 x8 (ix3 b t n)
      = masked t.val (rowLogits x0 x1 x2 x4 x5 x6 x7 x8 qq iq (rowOf b t)) (sortedFrom (greater t.val (rowLogits x0 x1 x2 x4 x5 x6 x7 x8 qq iq (rowOf b t))) n) := by
  unfold val_main_values
  rw [(top_apply (val_main_v156 (F := Ideal) x0 x1 x2 x4 x5 x6 x7 x8) _ _ _ _).1, visited_eq _ _ _ _ _ _ _ _ ag, ref_masked _ _ _ _ _ _ _ _ ag]

/-- A row's position before the last reshape. -/
theorem ref_position_at (ag : Agree x0 x2 x4 qq iq) (b : Fin 2) (t n : Fin 1024) :
    val_main_indices (F := Ideal) x0 x1 x2 x4 x5 x6 x7 x8 (ix3 b t n)
      = BitVec.ofNat 32 (sortedFrom (greater t.val (rowLogits x0 x1 x2 x4 x5 x6 x7 x8 qq iq (rowOf b t))) n).val := by
  unfold val_main_indices
  rw [(top_apply (val_main_v156 (F := Ideal) x0 x1 x2 x4 x5 x6 x7 x8) _ _ _ _).2, visited_eq _ _ _ _ _ _ _ _ ag]

/-- A row's index before the last reshape. -/
theorem ref_index_at (ag : Agree x0 x2 x4 qq iq) (b : Fin 2) (t n : Fin 1024) :
    val_main_v160 (F := Ideal) x0 x1 x2 x4 x5 x6 x7 x8 (ix3 b t n)
      = if (sortedFrom (greater t.val (rowLogits x0 x1 x2 x4 x5 x6 x7 x8 qq iq (rowOf b t))) n).val ≤ t.val
        then BitVec.ofNat 32 (sortedFrom (greater t.val (rowLogits x0 x1 x2 x4 x5 x6 x7 x8 qq iq (rowOf b t))) n).val
        else 4294967295#32 := by
  have ht : val_main_v158 (F := Ideal) (ix3 b t n) = BitVec.ofNat 32 t.val := by
    rw [val_main_v158_apply, val_main_v157_apply, val_main_v150_apply]
  rw [val_main_v160_apply, val_main_v159_apply, ref_position_at _ _ _ _ _ _ _ _ ag, ht, val_main_call2_v1_apply, val_main_call2_v0_apply,
    val_main_c_apply, sle_small (Fin.isLt _) t.isLt, select_ofBool]
  simp only [decide_eq_true_eq]

theorem top_value_at (hfin : ∀ r s, rowLogits x0 x1 x2 x4 x5 x6 x7 x8 qq iq r s ≠ ⊥) (r : Fin 2048) (n : Fin 1024) :
    topValues qq (val_main_v131 (F := Ideal) x1 x2 x5 x6 x7) (val_main_v129 (F := Ideal) x1 x2 x5 x6 x7)
      (val_main_v138 (F := Ideal) x0 x1 x2 x4 x8) iq (ix2 r n)
      = masked (r.val % 1024) (rowLogits x0 x1 x2 x4 x5 x6 x7 x8 qq iq r) (sortedFrom (greater (r.val % 1024) (rowLogits x0 x1 x2 x4 x5 x6 x7 x8 qq iq r)) n) := by
  show valueOf (sorted (r.val % 1024) (rowLogits x0 x1 x2 x4 x5 x6 x7 x8 qq iq r) n) = _
  rw [sorted_eq _ _ (hfin r)]
  unfold entries
  rw [valueOf_ent]
  rfl

theorem top_index_at (hfin : ∀ r s, rowLogits x0 x1 x2 x4 x5 x6 x7 x8 qq iq r s ≠ ⊥) (r : Fin 2048) (n : Fin 1024) :
    topIndices qq (val_main_v131 (F := Ideal) x1 x2 x5 x6 x7) (val_main_v129 (F := Ideal) x1 x2 x5 x6 x7)
      (val_main_v138 (F := Ideal) x0 x1 x2 x4 x8) iq (ix2 r n)
      = if (sortedFrom (greater (r.val % 1024) (rowLogits x0 x1 x2 x4 x5 x6 x7 x8 qq iq r)) n).val ≤ r.val % 1024
        then BitVec.ofNat 32 (sortedFrom (greater (r.val % 1024) (rowLogits x0 x1 x2 x4 x5 x6 x7 x8 qq iq r)) n).val
        else 4294967295#32 := by
  show indexOf (sorted (r.val % 1024) (rowLogits x0 x1 x2 x4 x5 x6 x7 x8 qq iq r) n) = _
  rw [sorted_eq _ _ (hfin r)]
  unfold entries
  rw [indexOf_ent]

/-- The reference's values. -/
theorem ref_values (ag : Agree x0 x2 x4 qq iq) (hfin : ∀ r s, rowLogits x0 x1 x2 x4 x5 x6 x7 x8 qq iq r s ≠ ⊥) :
    val_main_v161 (F := Ideal) x0 x1 x2 x4 x5 x6 x7 x8 = topValues qq (val_main_v131 (F := Ideal) x1 x2 x5 x6 x7) (val_main_v129 (F := Ideal) x1 x2 x5 x6 x7)
      (val_main_v138 (F := Ideal) x0 x1 x2 x4 x8) iq := by
  funext i
  obtain ⟨r, n, rfl⟩ : ∃ (r : Fin 2048) (n : Fin 1024), i = ix2 r n := ⟨i 0, i 1, eq_ix2 i⟩
  rw [val_main_v161_apply, place_result, ref_value_at _ _ _ _ _ _ _ _ ag, rowOf_split, top_value_at _ _ _ _ _ _ _ _ hfin]

/-- The reference's indices. -/
theorem ref_indices (ag : Agree x0 x2 x4 qq iq) (hfin : ∀ r s, rowLogits x0 x1 x2 x4 x5 x6 x7 x8 qq iq r s ≠ ⊥) :
    val_main_v162 (F := Ideal) x0 x1 x2 x4 x5 x6 x7 x8 = topIndices qq (val_main_v131 (F := Ideal) x1 x2 x5 x6 x7) (val_main_v129 (F := Ideal) x1 x2 x5 x6 x7)
      (val_main_v138 (F := Ideal) x0 x1 x2 x4 x8) iq := by
  funext i
  obtain ⟨r, n, rfl⟩ : ∃ (r : Fin 2048) (n : Fin 1024), i = ix2 r n := ⟨i 0, i 1, eq_ix2 i⟩
  rw [val_main_v162_apply, place_result', ref_index_at _ _ _ _ _ _ _ _ ag, rowOf_split, top_index_at _ _ _ _ _ _ _ _ hfin]

end Rows

end Cert.Proof

end

end
-- ==== Proof.lean ====
/- The frames of the kernel, of its idealization and of the reference, the named constant, and the equality of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Results
public import proofs.«01_k».proof.Proof.Blocks
public import proofs.«01_k».proof.Proof.HostBetween
public import proofs.«01_k».proof.Proof.Reading
public import Idealize.ShloMosaic.Adequacy
public import Idealize.ShloMosaic.Init

@[expose] public section

noncomputable section

namespace Cert.Proof

open Idealize.ShloMosaic Idealize.ShloMosaic.ValueIdx Idealize.SL.Sem

theorem frame_reference [Cert.ReferenceIdeal.Facts] : Cert.quiescent_ReferenceIdeal := by
  intro m ρ _
  exact (θ_run Cert.ReferenceIdeal.defs _ _).mono
    (fun r h => ⟨fun c => (h c).2.2, sem_eq_zero_of_no_sems (by decide) r.2⟩)
    (Cert.ReferenceIdeal.Value.run (F := Ideal) m ρ)

section
open Cert.KernelIdeal Cert.KernelIdeal.Gen

variable (m : (ℓ : Loc nD τ sig) → Buf (Elt Ideal) ℓ) (ρ : Dev nD → PrngReg) (c : Dev nD)

/-- The values and the indices that both programs end with. -/
def finalValues : (⟨S2048x1024, .f32⟩ : BufTy).Contents (Elt Ideal) :=
  topValues (V3 m ρ c main_v59_0) (V3 m ρ c main_v58) (V3 m ρ c main_v56) (V3 m ρ c main_v80) (V3 m ρ c main_v75)

def finalIndices : (⟨S2048x1024, .i32⟩ : BufTy).Contents (Elt Ideal) :=
  topIndices (V3 m ρ c main_v59_0) (V3 m ρ c main_v58) (V3 m ρ c main_v56) (V3 m ρ c main_v80) (V3 m ρ c main_v75)

theorem kernel_values : W4 m ρ c (Proc.devRef .tc main_v81_0) = finalValues m ρ c :=
  (W4_arr m ρ c 5).trans (final_values (V3 m ρ) c)

theorem kernel_indices : W4 m ρ c (Proc.devRef .tc main_v81_1) = finalIndices m ρ c :=
  (W4_arr m ρ c 6).trans (final_indices (V3 m ρ) c)

/-- The kernel's floating-point arguments are finite. -/
structure ArgsReal : Prop where
  a0 : ∀ i, IsReal (arg0 m c i)
  a1 : ∀ i, IsReal (arg1 m c i)
  a4 : ∀ i, IsReal (arg4 m c i)
  a5 : ∀ i, IsReal (arg5 m c i)
  a6 : ∀ i, IsReal (arg6 m c i)
  a7 : ∀ i, IsReal (arg7 m c i)
  a8 : ∀ i, IsReal (arg8 m c i)

variable {m c}

/-- The second call reads what the reference computes. -/
theorem agree (h : ArgsReal m c) : Agree (arg0 m c) (arg2 m c) (arg4 m c) (V3 m ρ c main_v59_0) (V3 m ρ c main_v75) where
  query := second_queries m ρ c
  inverse := second_inverse m ρ c
  positive := queryScale_pos (arg2 m c) h.a0 h.a4

/-- Of finite arguments no logit is `⊥`. -/
theorem rows_ne_bot (h : ArgsReal m c) (r : Fin 2048) (s : Fin (2 ^ 10)) :
    rowLogits (arg0 m c) (arg1 m c) (arg2 m c) (arg4 m c) (arg5 m c) (arg6 m c) (arg7 m c) (arg8 m c)
      (V3 m ρ c main_v59_0) (V3 m ρ c main_v75) r s ≠ ⊥ := by
  refine (logits_real _ _ _ _ _ (fun r h' d => ?_) (codes_real _ h.a1 h.a5 h.a6 h.a7)
    (fun i => (keyScale_pos _ h.a1 h.a5 h.a6 h.a7 i).real) (weights_real _ h.a1 h.a0 h.a4 h.a8) (fun r h' => ?_) r s).ne_bot
  · rw [(agree ρ h).query]
    exact queries_real _ h.a0 h.a4 _
  · rw [(agree ρ h).inverse]
    exact (ones.div ((agree ρ h).positive _)).real

theorem reference_values (h : ArgsReal m c) :
    Cert.ReferenceIdeal.Read.val_main_v161 (F := Ideal) (arg0 m c) (arg1 m c) (arg2 m c) (arg4 m c) (arg5 m c) (arg6 m c) (arg7 m c)
      (arg8 m c) = finalValues m ρ c := by
  unfold finalValues
  rw [second_codes, second_scales, second_weights]
  exact ref_values _ _ _ _ _ _ _ _ (agree ρ h) (rows_ne_bot ρ h)

theorem reference_indices (h : ArgsReal m c) :
    Cert.ReferenceIdeal.Read.val_main_v162 (F := Ideal) (arg0 m c) (arg1 m c) (arg2 m c) (arg4 m c) (arg5 m c) (arg6 m c) (arg7 m c)
      (arg8 m c) = finalIndices m ρ c := by
  unfold finalIndices
  rw [second_codes, second_scales, second_weights]
  exact ref_indices _ _ _ _ _ _ _ _ (agree ρ h) (rows_ne_bot ρ h)

end

/-- The kernel and the reference end with the values and the indices of the sorted entries. -/
theorem equal_results : Cert.algebraic_KernelIdeal_ReferenceIdeal_pre_finite := by
  intro m ρ m' ρ' hpre hm
  refine ⟨finalValues m ρ, finalIndices m ρ, ?_, ?_⟩
  · exact (θ_run Cert.KernelIdeal.defs _ _).mono
      (fun r h c => ⟨(h c).1.trans (kernel_values m ρ c), (h c).2.1.trans (kernel_indices m ρ c), (h c).2.2⟩)
      (Cert.KernelIdeal.Gen.run_results m ρ)
  · refine (θ_run Cert.ReferenceIdeal.defs _ _).mono (fun r h c => ?_) (Cert.ReferenceIdeal.Value.run (F := Ideal) m' ρ')
    obtain ⟨e0, e1, e2, -, e4, e5, e6, e7, e8⟩ := hm c
    obtain ⟨p0, p1, p4, p5, p6, p7, p8⟩ := hpre c
    have f0 : StableHlo.launchContents m' c (Proc.devRef .tc Cert.ReferenceIdeal.main_arg0) = arg0 m c := e0
    have f1 : StableHlo.launchContents m' c (Proc.devRef .tc Cert.ReferenceIdeal.main_arg1) = arg1 m c := e1
    have f2 : StableHlo.launchContents m' c (Proc.devRef .tc Cert.ReferenceIdeal.main_arg2) = arg2 m c := e2
    have f4 : StableHlo.launchContents m' c (Proc.devRef .tc Cert.ReferenceIdeal.main_arg4) = arg4 m c := e4
    have f5 : StableHlo.launchContents m' c (Proc.devRef .tc Cert.ReferenceIdeal.main_arg5) = arg5 m c := e5
    have f6 : StableHlo.launchContents m' c (Proc.devRef .tc Cert.ReferenceIdeal.main_arg6) = arg6 m c := e6
    have f7 : StableHlo.launchContents m' c (Proc.devRef .tc Cert.ReferenceIdeal.main_arg7) = arg7 m c := e7
    have f8 : StableHlo.launchContents m' c (Proc.devRef .tc Cert.ReferenceIdeal.main_arg8) = arg8 m c := e8
    have hr : ArgsReal m c := ⟨fun i => isReal_of_bit (congrFun p0 i), fun i => isReal_of_bit (congrFun p1 i),
      fun i => isReal_of_bit (congrFun p4 i), fun i => isReal_of_bit (congrFun p5 i), fun i => isReal_of_bit (congrFun p6 i),
      fun i => isReal_of_bit (congrFun p7 i), fun i => isReal_of_bit (congrFun p8 i)⟩
    refine ⟨(h c).1.trans ?_, (h c).2.1.trans ?_, (h c).2.2⟩
    · rw [Cert.ReferenceIdeal.Read.val_main_v161_eq, f0, f1, f2, f4, f5, f6, f7, f8]
      exact reference_values ρ hr
    · rw [Cert.ReferenceIdeal.Read.val_main_v162_eq, f0, f1, f2, f4, f5, f6, f7, f8]
      exact reference_indices ρ hr

theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    IdealRules.named_const.statement Cert.KernelIdeal.κ "mask" .f32 0xF149F2CA#32 ⊥ rfl, equal_results⟩

end Cert.Proof

end

end
